-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S8x512x640 : Shape := ⟨3, ![8, 512, 640]⟩
abbrev S8x512x704 : Shape := ⟨3, ![8, 512, 704]⟩
abbrev S7x512x640 : Shape := ⟨3, ![7, 512, 640]⟩
abbrev S7x512x704 : Shape := ⟨3, ![7, 512, 704]⟩
abbrev S7 : Shape := ⟨1, ![7]⟩
abbrev S_ : Shape := ⟨0, ![]⟩
abbrev S512x512 : Shape := ⟨2, ![512, 512]⟩
abbrev S512x640 : Shape := ⟨2, ![512, 640]⟩
abbrev S1x512x640 : Shape := ⟨3, ![1, 512, 640]⟩
abbrev S512x704 : Shape := ⟨2, ![512, 704]⟩
abbrev S1x512x704 : Shape := ⟨3, ![1, 512, 704]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e5m2⟩
  | .local _ .vmem, ⟨1, _⟩ => ⟨S512x2048, .fp8e5m2⟩
  | .local _ .vmem, ⟨2, _⟩ => ⟨S512x2048, .f32⟩
  | .local _ .vmem, ⟨3, _⟩ => ⟨S8x512x640, .bf16⟩
  | .local _ .vmem, ⟨4, _⟩ => ⟨S8x512x704, .bf16⟩
  | .local _ .vmem, ⟨5, _⟩ => ⟨S8x512x704, .bf16⟩
  | .local _ .vmem, ⟨6, _⟩ => ⟨S7x512x640, .bf16⟩
  | .local _ .vmem, ⟨7, _⟩ => ⟨S7x512x704, .bf16⟩
  | .local _ .vmem, ⟨8, _⟩ => ⟨S7x512x704, .bf16⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c2_i32
  let c512_i32 : BitVec 32 := 512#32
  let v17 : BitVec 32 := Scalar.muli v16 c512_i32
  let v18 : Index := Scalar.indexCast v17
  let c0_11 : Index := 0#32
  ![v18.toNat, 0]
def k0_off2 (d0 : Dev nD) (c2_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : BitVec 32 := Scalar.xori v2 c2_i32
  let v25 : Index := Scalar.indexCast v16
  let c0_12 : Index := 0#32
  let c0_13 : Index := 0#32
  ![v25.toNat, 0, 0]
def k0_off3 (d0 : Dev nD) (c2_i32_14 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v29 : BitVec 32 := Scalar.xori v2 c2_i32_14
  let c0_i32_23 : BitVec 32 := 0#32
  let c0_i32_24 : BitVec 32 := 0#32
  ![v29.toNat, 0, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v30 : BitVec 32 := Scalar.xori v2 c1_i32_15
  let c1_i32_19 : BitVec 32 := 1#32
  let v31 : BitVec 32 := Scalar.muli v30 c1_i32_19
  let v32 : BitVec 32 := Scalar.addi c0_i32_20 v31
  v32.toNat
def k0_off4 (d0 : Dev nD) (c7_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v41 : BitVec 32 := Scalar.xori v2 c7_i32
  let v50 : Index := Scalar.indexCast v41
  let c0_28 : Index := 0#32
  let c0_29 : Index := 0#32
  ![v50.toNat, 0, 0]
def k0_off5 (d0 : Dev nD) (c7_i32_30 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.xori v2 c7_i32_30
  let c0_i32_39 : BitVec 32 := 0#32
  let c0_i32_40 : BitVec 32 := 0#32
  ![v54.toNat, 0, 0]
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v55 : BitVec 32 := Scalar.xori v2 c3_i32_31
  let c1_i32_35 : BitVec 32 := 1#32
  let v56 : BitVec 32 := Scalar.muli v55 c1_i32_35
  let v57 : BitVec 32 := Scalar.addi c0_i32_36 v56
  v57.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v80 : BitVec 32 := Scalar.xori v2 c4_i32_47
  let c1_i32_51 : BitVec 32 := 1#32
  let v81 : BitVec 32 := Scalar.muli v80 c1_i32_51
  let v82 : BitVec 32 := Scalar.addi c0_i32_52 v81
  v82.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_63 : BitVec 32 := 1#32
  let v105 : BitVec 32 := Scalar.xori v2 c1_i32_63
  let c1_i32_67 : BitVec 32 := 1#32
  let v106 : BitVec 32 := Scalar.muli v105 c1_i32_67
  let v107 : BitVec 32 := Scalar.addi c0_i32_68 v106
  v107.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v130 : BitVec 32 := Scalar.xori v2 c3_i32_80
  let c1_i32_84 : BitVec 32 := 1#32
  let v131 : BitVec 32 := Scalar.muli v130 c1_i32_84
  let v132 : BitVec 32 := Scalar.addi c0_i32_85 v131
  v132.toNat
def k0_dev9 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v155 : BitVec 32 := Scalar.xori v2 c4_i32_97
  let c1_i32_101 : BitVec 32 := 1#32
  let v156 : BitVec 32 := Scalar.muli v155 c1_i32_101
  let v157 : BitVec 32 := Scalar.addi c0_i32_102 v156
  v157.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v180 : BitVec 32 := Scalar.xori v2 c1_i32_114
  let c1_i32_118 : BitVec 32 := 1#32
  let v181 : BitVec 32 := Scalar.muli v180 c1_i32_118
  let v182 : BitVec 32 := Scalar.addi c0_i32_119 v181
  v182.toNat
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_131 : BitVec 32 := 3#32
  let v205 : BitVec 32 := Scalar.xori v2 c3_i32_131
  let c1_i32_135 : BitVec 32 := 1#32
  let v206 : BitVec 32 := Scalar.muli v205 c1_i32_135
  let v207 : BitVec 32 := Scalar.addi c0_i32_136 v206
  v207.toNat
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v230 : BitVec 32 := Scalar.xori v2 c4_i32_148
  let c1_i32_152 : BitVec 32 := 1#32
  let v231 : BitVec 32 := Scalar.muli v230 c1_i32_152
  let v232 : BitVec 32 := Scalar.addi c0_i32_153 v231
  v232.toNat
def k0_dev13 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_165 : BitVec 32 := 1#32
  let v255 : BitVec 32 := Scalar.xori v2 c1_i32_165
  let c1_i32_169 : BitVec 32 := 1#32
  let v256 : BitVec 32 := Scalar.muli v255 c1_i32_169
  let v257 : BitVec 32 := Scalar.addi c0_i32_170 v256
  v257.toNat
def k0_dev14 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_182 : BitVec 32 := 3#32
  let v280 : BitVec 32 := Scalar.xori v2 c3_i32_182
  let c1_i32_186 : BitVec 32 := 1#32
  let v281 : BitVec 32 := Scalar.muli v280 c1_i32_186
  let v282 : BitVec 32 := Scalar.addi c0_i32_187 v281
  v282.toNat
def k0_dev15 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v305 : BitVec 32 := Scalar.xori v2 c4_i32_199
  let c1_i32_203 : BitVec 32 := 1#32
  let v306 : BitVec 32 := Scalar.muli v305 c1_i32_203
  let v307 : BitVec 32 := Scalar.addi c0_i32_204 v306
  v307.toNat
def k0_dev16 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_349 : BitVec 32 := 3#32
  let v549 : BitVec 32 := Scalar.xori v2 c3_i32_349
  let c1_i32_353 : BitVec 32 := 1#32
  let v550 : BitVec 32 := Scalar.muli v549 c1_i32_353
  let v551 : BitVec 32 := Scalar.addi c0_i32_354 v550
  v551.toNat
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_360 : BitVec 32 := 3#32
  let v561 : BitVec 32 := Scalar.xori v2 c3_i32_360
  let c1_i32_364 : BitVec 32 := 1#32
  let v562 : BitVec 32 := Scalar.muli v561 c1_i32_364
  let v563 : BitVec 32 := Scalar.addi c0_i32_365 v562
  v563.toNat
def k0_dev18 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388 : BitVec 32 := 4#32
  let v592 : BitVec 32 := Scalar.xori v2 c4_i32_388
  let c1_i32_392 : BitVec 32 := 1#32
  let v593 : BitVec 32 := Scalar.muli v592 c1_i32_392
  let v594 : BitVec 32 := Scalar.addi c0_i32_393 v593
  v594.toNat
def k0_dev19 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_399 : BitVec 32 := 4#32
  let v604 : BitVec 32 := Scalar.xori v2 c4_i32_399
  let c1_i32_403 : BitVec 32 := 1#32
  let v605 : BitVec 32 := Scalar.muli v604 c1_i32_403
  let v606 : BitVec 32 := Scalar.addi c0_i32_404 v605
  v606.toNat
def k0_dev20 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_427 : BitVec 32 := 1#32
  let v635 : BitVec 32 := Scalar.xori v2 c1_i32_427
  let c1_i32_431 : BitVec 32 := 1#32
  let v636 : BitVec 32 := Scalar.muli v635 c1_i32_431
  let v637 : BitVec 32 := Scalar.addi c0_i32_432 v636
  v637.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_438 : BitVec 32 := 1#32
  let v647 : BitVec 32 := Scalar.xori v2 c1_i32_438
  let c1_i32_442 : BitVec 32 := 1#32
  let v648 : BitVec 32 := Scalar.muli v647 c1_i32_442
  let v649 : BitVec 32 := Scalar.addi c0_i32_443 v648
  v649.toNat
def k0_dev22 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_515 : BitVec 32 := 4#32
  let v735 : BitVec 32 := Scalar.xori v2 c4_i32_515
  let c1_i32_519 : BitVec 32 := 1#32
  let v736 : BitVec 32 := Scalar.muli v735 c1_i32_519
  let v737 : BitVec 32 := Scalar.addi c0_i32_520 v736
  v737.toNat
def k0_dev23 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_543 : BitVec 32 := 1#32
  let v766 : BitVec 32 := Scalar.xori v2 c1_i32_543
  let c1_i32_547 : BitVec 32 := 1#32
  let v767 : BitVec 32 := Scalar.muli v766 c1_i32_547
  let v768 : BitVec 32 := Scalar.addi c0_i32_548 v767
  v768.toNat
def k0_dev24 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_571 : BitVec 32 := 3#32
  let v797 : BitVec 32 := Scalar.xori v2 c3_i32_571
  let c1_i32_575 : BitVec 32 := 1#32
  let v798 : BitVec 32 := Scalar.muli v797 c1_i32_575
  let v799 : BitVec 32 := Scalar.addi c0_i32_576 v798
  v799.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v933 : Index := Scalar.indexCast v2
  let c0_692 : Index := 0#32
  let c0_693 : Index := 0#32
  ![v933.toNat, 0, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v954 : Index := Scalar.indexCast v2
  let c0_708 : Index := 0#32
  let c0_709 : Index := 0#32
  ![v954.toNat, 0, 0]
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Proto.lean ====
/-
  The protocol of the kernel, before any run of it.

  Eight devices, numbered by three bits; a device's peers are reached by flipping bits of its number, with the masks 1, 3
  and 4. The columns of the product are cut in three groups (640, 704 and 704 wide), and group `o` is reduced over the
  devices in three phases, phase `k` with the peer across the mask `mk o k`. A device keeps a slab of partial sums for
  every row block and every group. A MESSAGE `(o, s)` is the copy of one slab of group `o` into slot `s` of the peer's
  landing buffer for that group: slots 0 to 3 belong to phase 0, slots 4 and 5 to phase 1, slot 6 to phase 2. Every slot
  receives exactly once, on a semaphore of its own, so each semaphore has one round.

  - The barrier semaphore of a device receives one unit from each of its three peers; the unit from the peer across mask
    `m` hands over that peer's seven landing slots for the messages which cross `m`.
  - The receive semaphore of `(o, s)` is credited when the peer's slab has landed; it hands over the slot, holding the
    peer's partial sum at that phase.
  - The send semaphore of `(o, s)` is credited when the source slab has been read; it hands the slab back.

  A wait sits below everything the device still owes: staging and send semaphores at level 0, the barrier at 1, the
  receive semaphores of phase `k` at `2 + k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the messages' (duties: which of three units) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Messages -/

abbrev Msg : Type := Fin 3 × Fin 7

set_option backward.proofsInPublic true in
/-- The device (or row block) across a mask. -/
def xr (c a : Dev nD) : Dev nD := ⟨(c.val ^^^ a.val) % 8, Nat.mod_lt _ (by decide)⟩

/-- The phase of a slot; the mask of a group's phase; the mask a message crosses. -/
def ph (s : Fin 7) : Fin 3 := ![0, 0, 0, 0, 1, 1, 2] s
@[inherit_doc ph] def mk (o k : Fin 3) : Dev nD := (![![1, 3, 4], ![3, 4, 1], ![4, 1, 3]] : Fin 3 → Fin 3 → Dev nD) o k
@[inherit_doc ph] def mask (x : Msg) : Dev nD := mk x.1 (ph x.2)

/-- The row block a message carries, relative to the receiver; -/
def kept (x : Msg) : Dev nD := (![![3, 7, 4, 0, 4, 0, 0], ![4, 5, 1, 0, 1, 0, 0], ![1, 2, 3, 0, 3, 0, 0]] : Fin 3 → Fin 7 → Dev nD) x.1 x.2
/-- and relative to the sender. -/
def off (x : Msg) : Dev nD := (![![2, 6, 5, 1, 7, 3, 4], ![7, 6, 2, 3, 5, 4, 1], ![5, 6, 7, 4, 2, 1, 3]] : Fin 3 → Fin 7 → Dev nD) x.1 x.2

/-- The peer a device sends message `x` to. -/
def peer (x : Msg) (c : Dev nD) : Dev nD := xr c (mask x)

theorem xr_xr (c a : Dev nD) : xr (xr c a) a = c := by revert c a; decide
theorem peer_peer (x : Msg) (c : Dev nD) : peer x (peer x c) = c := xr_xr c _
theorem xr_peer_kept (x : Msg) (c : Dev nD) : xr (peer x c) (kept x) = xr c (off x) := by revert x c; decide
theorem xr_zero (c : Dev nD) : xr c 0 = c := by revert c; decide

def flip (a : Dev nD) : Dev nD ≃ Dev nD := ⟨fun c => xr c a, fun c => xr c a, fun c => xr_xr c a, fun c => xr_xr c a⟩

/-- The messages in the order in which every device starts them. -/
def msgs : List Msg :=
  [(0, 0), (1, 0), (2, 0), (0, 1), (1, 1), (2, 1), (0, 2), (1, 2), (2, 2), (0, 3), (1, 3), (2, 3),
   (0, 4), (0, 5), (1, 4), (1, 5), (2, 4), (2, 5), (0, 6), (1, 6), (2, 6)]

theorem msgs_nodup : msgs.Nodup := by decide
theorem msgs_univ : (Finset.univ : Finset Msg) = msgs.toFinset := by decide

/-- The three barrier peers' masks, and the messages which cross each. -/
def mB (i : Fin 3) : Dev nD := (![1, 3, 4] : Fin 3 → Dev nD) i
@[inherit_doc mB] def msgsOf (i : Fin 3) : List Msg := msgs.filter fun x => mask x = mB i

/-! ## Buffers, slabs and slots -/

abbrev xM : Memref sig .tc .vmem S4096x512 .fp8e5m2 := Memref.whole cc0_stg0_0
abbrev wM : Memref sig .tc .vmem S512x2048 .fp8e5m2 := Memref.whole cc0_stg1_0
abbrev oM : Memref sig .tc .vmem S512x2048 .f32 := Memref.whole cc0_stg4_0
abbrev pM0 : Memref sig .tc .vmem S8x512x640 .bf16 := Memref.whole cc0_scratch0
abbrev pM1 : Memref sig .tc .vmem S8x512x704 .bf16 := Memref.whole cc0_scratch1
abbrev pM2 : Memref sig .tc .vmem S8x512x704 .bf16 := Memref.whole cc0_scratch2
abbrev rM0 : Memref sig .tc .vmem S7x512x640 .bf16 := Memref.whole cc0_scratch3
abbrev rM1 : Memref sig .tc .vmem S7x512x704 .bf16 := Memref.whole cc0_scratch4
abbrev rM2 : Memref sig .tc .vmem S7x512x704 .bf16 := Memref.whole cc0_scratch5

theorem inbP0 (b : Fin 8) : ∀ a, (![b.val, 0, 0] : Fin 3 → ℕ) a + S1x512x640.size a ≤ S8x512x640.size a := by revert b; decide
theorem inbP1 (b : Fin 8) : ∀ a, (![b.val, 0, 0] : Fin 3 → ℕ) a + S1x512x704.size a ≤ S8x512x704.size a := by revert b; decide
theorem inbR0 (s : Fin 7) : ∀ a, (![s.val, 0, 0] : Fin 3 → ℕ) a + S1x512x640.size a ≤ S7x512x640.size a := by revert s; decide
theorem inbR1 (s : Fin 7) : ∀ a, (![s.val, 0, 0] : Fin 3 → ℕ) a + S1x512x704.size a ≤ S7x512x704.size a := by revert s; decide
theorem inbX (b : Fin 8) : ∀ a, (![b.val * 512, 0] : Fin 2 → ℕ) a + S512x512.size a ≤ S4096x512.size a := by revert b; decide

/-- Row block `b` of the partial sums (640 and 704 wide), landing slot `s`, row block `b` of the operand. -/
abbrev rP0 (b : Fin 8) : Rect S8x512x640 := Rect.unit ![b.val, 0, 0] S1x512x640.size (inbP0 b)
@[inherit_doc rP0] abbrev rP1 (b : Fin 8) : Rect S8x512x704 := Rect.unit ![b.val, 0, 0] S1x512x704.size (inbP1 b)
@[inherit_doc rP0] abbrev rR0 (s : Fin 7) : Rect S7x512x640 := Rect.unit ![s.val, 0, 0] S1x512x640.size (inbR0 s)
@[inherit_doc rP0] abbrev rR1 (s : Fin 7) : Rect S7x512x704 := Rect.unit ![s.val, 0, 0] S1x512x704.size (inbR1 s)
@[inherit_doc rP0] abbrev rX (b : Fin 8) : Rect S4096x512 := Rect.unit ![b.val * 512, 0] S512x512.size (inbX b)

/-- A rectangle of a buffer on device `c`, held outright, reading as `X`; -/
def Slab {sp : Space} {s : Shape} {e : EltTy} (M : Memref sig .tc sp s e) (c : Dev nD) (r : Rect s) (X : r.shape.Idx → Elt F e) : sProp 𝕄 :=
  iprop(∃ f : Buf (Elt F) ((M.access r).loc (c : Thread nD τ)), ⌜(M.access r).read (Elt F) f = X⌝ ∗ ((M.access r).loc (c : Thread nD τ) ↦[(M.access r).set]{fullShare} f))
/-- or reading as anything. -/
def SlabE {sp : Space} {s : Shape} {e : EltTy} (M : Memref sig .tc sp s e) (c : Dev nD) (r : Rect s) : sProp 𝕄 :=
  iprop(∃ f : Buf (Elt F) ((M.access r).loc (c : Thread nD τ)), (M.access r).loc (c : Thread nD τ) ↦[(M.access r).set]{fullShare} f)

section
omit [FloatOps F]
variable {sp : Space} {s : Shape} {e : EltTy} (M : Memref sig .tc sp s e) (c : Dev nD) (r : Rect s)
instance Slab_storable (X : r.shape.Idx → Elt F e) : BI.Storable (upEmb : UEmb _ 𝕄) (Slab M c r X) := by unfold Slab; infer_instance
instance SlabE_storable : BI.Storable (upEmb : UEmb _ 𝕄) (SlabE (F := F) M c r) := by unfold SlabE; infer_instance
theorem Slab_to_E (X : r.shape.Idx → Elt F e) : Slab M c r X ⊢ SlabE M c r := by
  unfold Slab SlabE
  iintro ⟨%f, -, H⟩
  iexists f; iexact H
end

/-! ## Semaphores -/

/-- The runtime's barrier semaphore; message `x`'s send and receive semaphores. -/
abbrev barS : Sem sig := (SemArray.scalar (sig.barrier 0 rfl) : Sems sig S_).sem
set_option backward.proofsInPublic true in
@[inherit_doc barS] def sQ (x : Msg) : DmaSem sig := ⟨5 + 14 * x.1.val + x.2.val, by have := x.1.isLt; have := x.2.isLt; show _ < 47; omega⟩
set_option backward.proofsInPublic true in
@[inherit_doc barS] def rQ (x : Msg) : DmaSem sig := ⟨12 + 14 * x.1.val + x.2.val, by have := x.1.isLt; have := x.2.isLt; show _ < 47; omega⟩

abbrev barCell (c : Dev nD) : GSem nD τ sig := ((c : Thread nD τ), .reg barS)
abbrev sCell (x : Msg) (c : Dev nD) : GSem nD τ sig := ((c : Thread nD τ), .dma (sQ x))
abbrev rCell (x : Msg) (c : Dev nD) : GSem nD τ sig := ((c : Thread nD τ), .dma (rQ x))

/-- The message of a DMA semaphore past the staging ones, and whether it is the send side. -/
def msgOf (q : DmaSem sig) : Msg := (Fin.ofNat 3 ((q.val - 5) / 14), Fin.ofNat 7 ((q.val - 5) % 7))
@[inherit_doc msgOf] def isSend (q : DmaSem sig) : Bool := (q.val - 5) % 14 < 7

theorem msgOf_sQ (x : Msg) : msgOf (sQ x) = x := by revert x; decide
theorem msgOf_rQ (x : Msg) : msgOf (rQ x) = x := by revert x; decide
theorem isSend_sQ (x : Msg) : isSend (sQ x) = true := by revert x; decide
theorem isSend_rQ (x : Msg) : isSend (rQ x) = false := by revert x; decide
theorem sQ_ge (x : Msg) : ¬ (sQ x).val < 5 := by revert x; decide
theorem rQ_ge (x : Msg) : ¬ (rQ x).val < 5 := by revert x; decide

/-- What a message of group `o` adds to its two semaphores. -/
def NN (o : Fin 3) : ℕ := match o with
  | 0 => sig.dmaCredit .tc (Kind.table .tc .vmem) (rM0 : Memref sig .tc .vmem S7x512x640 .bf16).view.buf S512x640 .bf16
  | _ => sig.dmaCredit .tc (Kind.table .tc .vmem) (rM1 : Memref sig .tc .vmem S7x512x704 .bf16).view.buf S512x704 .bf16

theorem NN_pos (o : Fin 3) : 0 < NN o := by
  fin_cases o <;> exact sig.dmaCredit_pos _ _ _ _ _ (by decide)

/-! ## Contents -/

/-- The partial sums of one column group: a device's own product (phase 0), and each phase's sum with the peer's. -/
def lvl {V : Type} (add : V → V → V) (m : Fin 3 → Dev nD) (P : Dev nD → Dev nD → V) (k : Fin 3) : Dev nD → Dev nD → V := match k with
  | 0 => P
  | 1 => fun c b => add (P c b) (P (xr c (m 0)) b)
  | 2 => fun c b => add (add (P c b) (P (xr c (m 0)) b)) (add (P (xr c (m 1)) b) (P (xr (xr c (m 1)) (m 0)) b))

section Contents
variable (X : Dev nD → FVec F S4096x512 .fp8e5m2) (W : Dev nD → FVec F S512x2048 .fp8e5m2)

/-- Row block `b` of the operand on device `c`. -/
def xrow (c b : Dev nD) : FVec F S512x512 .fp8e5m2 := (xM : Memref sig .tc .vmem S4096x512 .fp8e5m2).view.readAt (Elt F) (rX b).toLoadRect (X c)

/-- The three groups' own products, in the storage width of the partial sums. -/
def prod0 (c b : Dev nD) : FVec F S1x512x640 .bf16 := k0_pay2 (W c) (xrow X c b)
@[inherit_doc prod0] def prod1 (c b : Dev nD) : FVec F S1x512x704 .bf16 := k0_pay3 (k0_pay1 (W c)) (xrow X c b)
@[inherit_doc prod0] def prod2 (c b : Dev nD) : FVec F S1x512x704 .bf16 := k0_pay4 (k0_pay1 (W c)) (xrow X c b)

abbrev sum0 (k : Fin 3) (c b : Dev nD) : FVec F S1x512x640 .bf16 := lvl k0_pay37 (mk 0) (prod0 X W) k c b
abbrev sum1 (k : Fin 3) (c b : Dev nD) : FVec F S1x512x704 .bf16 := lvl k0_pay38 (mk 1) (prod1 X W) k c b
abbrev sum2 (k : Fin 3) (c b : Dev nD) : FVec F S1x512x704 .bf16 := lvl k0_pay38 (mk 2) (prod2 X W) k c b

/-- Message `x`'s landing slot on device `c`, holding anything; -/
def landE (x : Msg) (c : Dev nD) : sProp 𝕄 := match x.1 with
  | 0 => SlabE rM0 c (rR0 x.2)
  | 1 => SlabE rM1 c (rR1 x.2)
  | 2 => SlabE rM2 c (rR1 x.2)
/-- and holding what the peer sent. -/
def landed (x : Msg) (c : Dev nD) : sProp 𝕄 := match x.1 with
  | 0 => Slab rM0 c (rR0 x.2) (sum0 X W (ph x.2) (peer x c) (xr c (kept x)))
  | 1 => Slab rM1 c (rR1 x.2) (sum1 X W (ph x.2) (peer x c) (xr c (kept x)))
  | 2 => Slab rM2 c (rR1 x.2) (sum2 X W (ph x.2) (peer x c) (xr c (kept x)))
/-- The slab message `x` is sent from on device `c`, come back. -/
def srcE (x : Msg) (c : Dev nD) : sProp 𝕄 := match x.1 with
  | 0 => SlabE pM0 c (rP0 (xr c (off x)))
  | 1 => SlabE pM1 c (rP1 (xr c (off x)))
  | 2 => SlabE pM2 c (rP1 (xr c (off x)))

omit [FloatOps F] in
instance landE_storable (x : Msg) (c : Dev nD) : BI.Storable (upEmb : UEmb _ 𝕄) (landE (F := F) x c) := by
  unfold landE; split <;> infer_instance
instance landed_storable (x : Msg) (c : Dev nD) : BI.Storable (upEmb : UEmb _ 𝕄) (landed X W x c) := by
  unfold landed; split <;> infer_instance
omit [FloatOps F] in
instance srcE_storable (x : Msg) (c : Dev nD) : BI.Storable (upEmb : UEmb _ 𝕄) (srcE (F := F) x c) := by
  unfold srcE; split <;> infer_instance

/-- What the peer across mask `mB i` hands device `c` with its barrier unit. -/
def barPay (c : Dev nD) (i : Fin 3) : sProp 𝕄 := bigSepL (msgsOf i) fun x => landE x (xr c (mB i))

omit [FloatOps F] in
instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => rw [bigSepL_nil]; exact Storable.emp _
  | cons i l ih => rw [bigSepL_cons]; exact Storable.sep _ _ _

/-! ## The schedule -/

/-- One round: three units on a barrier cell, one credit on a message's send and receive cells. -/
def Rd : Rounds.Schedule (GSem nD τ sig) (Fin 3) 𝕄 where
  duties g r := if r = 0 ∧ g.1.2 = .tc then (match g.2 with
    | .reg b => if b = barS then Finset.univ else ∅
    | .dma q => if q.val < 5 then ∅ else {0}) else ∅
  unitless _ := False
  amount g _ _ := match g.2 with
    | .reg _ => 1
    | .dma q => NN (msgOf q).1
  payload g _ d := match g.2 with
    | .reg _ => barPay g.1.1 d
    | .dma q => if isSend q then srcE (msgOf q) g.1.1 else landed X W (msgOf q) g.1.1
  amount_pos g _ _ _ := by
    match g.2 with
    | .reg _ => exact Nat.one_pos
    | .dma q => exact NN_pos _

instance Rd_storable (g : GSem nD τ sig) (r : ℕ) (d : Fin 3) : BI.Storable (upEmb : UEmb _ 𝕄) ((Rd X W).payload g r d) := by
  obtain ⟨t, sm⟩ := g
  cases sm with
  | reg b => show BI.Storable upEmb (barPay (F := F) t.1 d); unfold barPay; infer_instance
  | dma q =>
    show BI.Storable upEmb (if isSend q then srcE (msgOf q) t.1 else landed X W (msgOf q) t.1)
    split <;> infer_instance

section Tables
variable (x : Msg) (c : Dev nD)

theorem duties_bar : (Rd X W).duties (barCell c) 0 = Finset.univ := by
  dsimp only [Rd]; rw [if_pos ⟨rfl, rfl⟩]; exact if_pos rfl
theorem duties_send : (Rd X W).duties (sCell x c) 0 = {0} := by
  dsimp only [Rd]; rw [if_pos ⟨rfl, rfl⟩]; exact if_neg (sQ_ge x)
theorem duties_recv : (Rd X W).duties (rCell x c) 0 = {0} := by
  dsimp only [Rd]; rw [if_pos ⟨rfl, rfl⟩]; exact if_neg (rQ_ge x)
theorem duties_later (g : GSem nD τ sig) : ∀ r, 1 ≤ r → (Rd X W).duties g r = ∅ :=
  fun r hr => by dsimp only [Rd]; exact if_neg fun h => by omega

theorem amount_bar (d : Fin 3) : (Rd X W).amount (barCell c) 0 d = 1 := rfl
theorem amount_send (d : Fin 3) : (Rd X W).amount (sCell x c) 0 d = NN x.1 := by
  show NN (msgOf (sQ x)).1 = _; rw [msgOf_sQ]
theorem amount_recv (d : Fin 3) : (Rd X W).amount (rCell x c) 0 d = NN x.1 := by
  show NN (msgOf (rQ x)).1 = _; rw [msgOf_rQ]

theorem expect_bar : (Rd X W).expect (barCell c) 0 = 3 := by
  unfold Schedule.expect Schedule.amountOf
  rw [duties_bar, Finset.sum_congr rfl fun d _ => amount_bar X W c d]; rfl
theorem expect_send : (Rd X W).expect (sCell x c) 0 = NN x.1 := by
  unfold Schedule.expect Schedule.amountOf; rw [duties_send, Finset.sum_singleton, amount_send]
theorem expect_recv : (Rd X W).expect (rCell x c) 0 = NN x.1 := by
  unfold Schedule.expect Schedule.amountOf; rw [duties_recv, Finset.sum_singleton, amount_recv]

theorem payload_bar (i : Fin 3) : (Rd X W).payload (barCell c) 0 i = barPay c i := rfl
theorem payload_send (d : Fin 3) : (Rd X W).payload (sCell x c) 0 d = srcE x c := by
  show (if isSend (sQ x) then srcE (msgOf (sQ x)) c else landed X W (msgOf (sQ x)) c) = _
  rw [isSend_sQ, if_pos rfl, msgOf_sQ]
theorem payload_recv (d : Fin 3) : (Rd X W).payload (rCell x c) 0 d = landed X W x c := by
  show (if isSend (rQ x) then srcE (msgOf (rQ x)) c else landed X W (msgOf (rQ x)) c) = _
  rw [isSend_rQ, if_neg Bool.false_ne_true, msgOf_rQ]

theorem rest_send : bigSep ((Rd X W).duties (sCell x c) 0 \ ∅) (fun d => (Rd X W).payload (sCell x c) 0 d) = srcE x c := by
  rw [Finset.sdiff_empty, duties_send, bigSep_singleton, payload_send]
theorem rest_recv : bigSep ((Rd X W).duties (rCell x c) 0 \ ∅) (fun d => (Rd X W).payload (rCell x c) 0 d) = landed X W x c := by
  rw [Finset.sdiff_empty, duties_recv, bigSep_singleton, payload_recv]

omit [FloatOps F] in
/-- A device's landing slots, by the mask their message crosses, are its slots in the messages' order. -/
theorem slots_eq (Φ : Msg → sProp 𝕄) : (bigSep Finset.univ fun i : Fin 3 => bigSepL (msgsOf i) Φ) = bigSepL msgs Φ := by
  have h1 (i : Fin 3) : bigSepL (msgsOf i) Φ = bigSep (Finset.univ.filter fun x => mask x = mB i) Φ := by
    rw [bigSep_eq_bigSepL_of_eq (msgsOf i) (by revert i; decide) (by revert i; decide)]
  have h2 : bigSepL msgs Φ = bigSep Finset.univ Φ := (bigSep_univ_eq_bigSepL msgs msgs_univ msgs_nodup Φ).symm
  have h3 : (Finset.univ : Finset Msg) = (Finset.univ : Finset (Fin 3)).biUnion fun i => Finset.univ.filter fun x => mask x = mB i := by decide
  rw [h2, h3, bigSep_biUnion_eq _ _ _ (by
    intro i _ j _ hij
    revert i j; decide)]
  exact bigSep_congr fun i _ => h1 i

/-- All three units of the barrier hand a device the slot of its peer for every message it sends. -/
theorem rest_bar : bigSep ((Rd X W).duties (barCell c) 0 \ ∅) (fun d => (Rd X W).payload (barCell c) 0 d) = bigSepL msgs fun x => landE x (peer x c) := by
  rw [Finset.sdiff_empty, duties_bar, ← slots_eq]
  refine bigSep_congr fun i _ => ?_
  rw [payload_bar]; unfold barPay
  have h : ∀ x ∈ msgsOf i, mask x = mB i := fun x hx => by simpa using (List.mem_filter.mp hx).2
  revert h
  generalize msgsOf i = l
  intro h
  induction l with
  | nil => rfl
  | cons y l ih =>
    rw [bigSepL_cons, bigSepL_cons, ih fun x hx => h x (List.mem_cons_of_mem _ hx)]
    unfold peer; rw [h y List.mem_cons_self]

end Tables
end Contents

/-! ## Dues and levels -/

/-- What a device pays: a unit on the barrier of the peer across `mB i`, or a message's credit on the peer's receive cell. -/
inductive Due where
  | bar (i : Fin 3)
  | msg (x : Msg)

/-- A payment's cell, seen from the payer; its units; its level. -/
def Due.cell : Due → Dev nD → GSem nD τ sig
  | .bar i, c => barCell (xr c (mB i))
  | .msg x, c => rCell x (peer x c)
@[inherit_doc Due.cell] def Due.amt : Due → ℕ
  | .bar _ => 1
  | .msg x => NN x.1
@[inherit_doc Due.cell] def Due.lev : Due → ℕ
  | .bar _ => 1
  | .msg x => 2 + (ph x.2).val

/-- What a device owes with the payments of a list before it, the head of the list next. -/
def dues (c : Dev nD) : List Due → CellTallies nD τ sig Unit
  | [] => 0
  | d :: l => dues c l + tallyAt (d.cell c) () d.amt

/-- All payments, in program order. -/
def allDues : List Due := [.bar 0, .bar 1, .bar 2] ++ msgs.map .msg

def L (g : GSem nD τ sig) : Finset Unit := if g.1.2 = .tc then {()} else ∅
def lv (g : GSem nD τ sig) (_ : Unit) : ℕ := match g.2 with
  | .reg _ => 1
  | .dma q => if q.val < 5 then 0 else if isSend q then 0 else 2 + (ph (msgOf q).2).val

theorem L_of_ne (g : GSem nD τ sig) (h : g.1.2 ≠ .tc) : L g = ∅ := if_neg h
theorem L_tc (c : Dev nD) (sm : SemLoc sig) : L ((c : Thread nD τ), sm) = {()} := if_pos rfl

theorem lv_send (x : Msg) (c : Dev nD) : lv (sCell x c) () = 0 := by
  show (if (sQ x).val < 5 then 0 else if isSend (sQ x) then 0 else _) = 0
  rw [if_neg (sQ_ge x), isSend_sQ, if_pos rfl]
theorem lv_recv (x : Msg) (c : Dev nD) : lv (rCell x c) () = 2 + (ph x.2).val := by
  show (if (rQ x).val < 5 then 0 else if isSend (rQ x) then 0 else _) = _
  rw [if_neg (rQ_ge x), isSend_rQ, if_neg Bool.false_ne_true, msgOf_rQ]
theorem Due.lv_cell (d : Due) (c : Dev nD) : lv (d.cell c) () = d.lev := by
  cases d with
  | bar i => rfl
  | msg x => exact lv_recv x _
theorem Due.L_cell (d : Due) (c : Dev nD) : L (d.cell c) = {()} := by cases d <;> exact L_tc _ _

/-- A device owes only at the cells of its list. -/
theorem dues_pos {c : Dev nD} {l : List Due} {g : GSem nD τ sig} {u : Unit} (h : 0 < dues c l g u) : ∃ d ∈ l, g = d.cell c := by
  induction l with
  | nil => exact absurd h (Nat.lt_irrefl 0)
  | cons d l ih =>
    rw [dues, Pi.add_apply, Finsupp.add_apply] at h
    rcases Nat.add_pos_iff_pos_or_pos.mp h with h | h
    · obtain ⟨d', h', e⟩ := ih h
      exact ⟨d', List.mem_cons_of_mem _ h', e⟩
    · rw [tallyAt_apply] at h
      by_cases e : g = d.cell c ∧ u = ()
      · exact ⟨d, List.mem_cons_self, e.1⟩
      · rw [if_neg e] at h; exact absurd h (Nat.lt_irrefl 0)

omit [FloatOps F] in
/-- A wait below everything still owed. -/
theorem mayWait_dues (c : Dev nD) (sm : SemLoc sig) (i : ℕ) (hi : lv ((c : Thread nD τ), sm) () = i) (l : List Due) (h : ∀ d ∈ l, i < d.lev) :
    (levAts L lv : sProp 𝕄) ⊢ MayWait (c : Thread nD τ) sm () (dues c l) :=
  MayOwe.of_cut (L := L) (lev := lv) i (fun p hp => by rw [Finset.mem_singleton.mp hp, L_tc]; exact Finset.mem_singleton_self _)
    (fun g u hg => by obtain ⟨d, _, rfl⟩ := dues_pos hg; rw [d.L_cell]; exact Finset.mem_singleton_self _)
    (fun p hp => by rw [Finset.mem_singleton.mp hp, hi])
    (fun g u hg => by obtain ⟨d, hd, rfl⟩ := dues_pos hg; rw [d.lv_cell]; exact h d hd)

end Cert.Proof.Kern

end
-- ==== Proof.Steps.lean ====
/-
  One rule per action of the kernel, each stated once at a symbolic device: a row block's product stored, a message started,
  a message received and added to a kept row block, a send's semaphore waited for, the barrier. What a device carries is
  two books: `Sends` (messages to start, in flight, and come back) and `Recvs` (messages to receive, received).
-/
module

public import proofs.«01_k».proof.Proof.Proto

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The program's addresses in closed form -/

theorem off1_eq (c : Dev nD) (r : Fin 8) : k0_off1 c (BitVec.ofNat 32 r.val) = ![(xr c r).val * 512, 0] := by revert c r; decide +kernel
theorem off2_eq (c : Dev nD) (r : Fin 8) : k0_off2 c (BitVec.ofNat 32 r.val) = ![(xr c r).val, 0, 0] := by revert c r; decide +kernel
theorem off3_eq (c : Dev nD) (r : Fin 8) : k0_off3 c (BitVec.ofNat 32 r.val) = ![(xr c r).val, 0, 0] := by revert c r; decide +kernel
theorem off4_eq (c : Dev nD) (r : Fin 8) : k0_off4 c (BitVec.ofNat 32 r.val) = ![(xr c r).val, 0, 0] := by revert c r; decide +kernel
theorem off5_eq (c : Dev nD) (r : Fin 8) : k0_off5 c (BitVec.ofNat 32 r.val) = ![(xr c r).val, 0, 0] := by revert c r; decide +kernel
theorem off6_eq (c : Dev nD) : k0_off6 c = ![(xr c 0).val, 0, 0] := by rw [k0_off6_eq, xr_zero]
theorem off7_eq (c : Dev nD) : k0_off7 c = ![(xr c 0).val, 0, 0] := by rw [k0_off7_eq, xr_zero]

/-! ## Cells, and what is known of all of them -/

/-- A device's cells: the barrier's, and each message's send (`false`) and receive (`true`) cell. -/
abbrev CI : Type := Option (Bool × Msg)
def ksem : CI → SemLoc sig
  | none => .reg barS
  | some (false, x) => .dma (sQ x)
  | some (true, x) => .dma (rQ x)
def kcell (p : Dev nD × CI) : GSem nD τ sig := ((p.1 : Thread nD τ), ksem p.2)

section Steps
variable (X : Dev nD → FVec F S4096x512 .fp8e5m2) (W : Dev nD → FVec F S512x2048 .fp8e5m2)
variable (K : Dev nD × CI → ℕ)

/-- Every cell's invariant, at the names `K`, and that its first round is reached. -/
def records : sProp 𝕄 :=
  iprop((bigSep Finset.univ fun p : Dev nD × CI => cellInv ER (Rd X W) (K p) (kcell p)) ∗ bigSep Finset.univ fun p : Dev nD × CI => reached ER (kcell p) 0)
instance records_persistent : BI.Persistent (records X W K) := by unfold records; infer_instance

theorem inv_at (p : Dev nD × CI) : records X W K ⊢ cellInv ER (Rd X W) (K p) (kcell p) := by
  unfold records; iintro ⟨H, -⟩
  iapply (show (bigSep Finset.univ fun p : Dev nD × CI => (cellInv ER (Rd X W) (K p) (kcell p) : sProp 𝕄)) ⊢ cellInv ER (Rd X W) (K p) (kcell p) from bigSep_elim (Finset.mem_univ p)); iexact H
theorem reached_at (p : Dev nD × CI) : records X W K ⊢ reached ER (kcell p) 0 := by
  unfold records; iintro ⟨-, H⟩
  iapply (show (bigSep Finset.univ fun p : Dev nD × CI => (reached ER (kcell p) 0 : sProp 𝕄)) ⊢ reached ER (kcell p) 0 from bigSep_elim (Finset.mem_univ p)); iexact H

/-! ## The books -/

omit [FloatOps F] in
theorem bigSepL_cons' {I : Type} (i : I) (l : List I) (Φ : I → sProp 𝕄) : bigSepL (i :: l) Φ = iprop(Φ i ∗ bigSepL l Φ) := bigSepL_cons _ _ _

def Owe (c : Dev nD) (l : List Due) : sProp 𝕄 := iprop(∃ Wt, owes (c : Thread nD τ) (dues c l) Wt)

/-- What starting a message takes: the peer's slot, its two duties, and the position at the send cell. -/
def sendKit (c : Dev nD) (x : Msg) : sProp 𝕄 :=
  iprop(landE x (peer x c) ∗ dutyTok ER (sCell x c) 0 (0 : Fin 3) ∗ dutyTok ER (rCell x (peer x c)) 0 (0 : Fin 3) ∗ atPos ER (sCell x c) 0 (∅ : Finset (Fin 3)) 0)
def inFlight (c : Dev nD) (x : Msg) : sProp 𝕄 := iprop(cred (tallyAt (sCell x c) () (NN x.1)) ∗ atPos ER (sCell x c) 0 (∅ : Finset (Fin 3)) 0)
def sent (c : Dev nD) (x : Msg) : sProp 𝕄 := iprop(srcE x c ∗ atPos ER (sCell x c) 1 (∅ : Finset (Fin 3)) 0)
/-- The messages to start (owed), in flight, and whose source has come back. -/
def Sends (c : Dev nD) (todo fly back : List Msg) : sProp 𝕄 :=
  iprop(Owe c (todo.map .msg) ∗ bigSepL todo (sendKit c) ∗ bigSepL fly (inFlight c) ∗ bigSepL back (sent c))

def recvKit (c : Dev nD) (x : Msg) : sProp 𝕄 := iprop(cred (tallyAt (rCell x c) () (NN x.1)) ∗ atPos ER (rCell x c) 0 (∅ : Finset (Fin 3)) 0)
def rcvd (c : Dev nD) (x : Msg) : sProp 𝕄 := iprop(landE x c ∗ atPos ER (rCell x c) 1 (∅ : Finset (Fin 3)) 0)
/-- The messages to receive, and received. -/
def Recvs (c : Dev nD) (todo back : List Msg) : sProp 𝕄 := iprop(bigSepL todo (recvKit (F := F) c) ∗ bigSepL back (rcvd c))

/-- The operand's staging buffer, and the result's. -/
def xHeld (c : Dev nD) : sProp 𝕄 := ((xM : Memref sig .tc .vmem S4096x512 .fp8e5m2).view.loc (c : Thread nD τ) ↦[Finset.univ]{fullShare} X c)
def oHeld (c : Dev nD) (f : FVec F S512x2048 .f32) : sProp 𝕄 := ((oM : Memref sig .tc .vmem S512x2048 .f32).view.loc (c : Thread nD τ) ↦[Finset.univ]{fullShare} f)

section Mem
variable {sp : CoreSpace} {s : Shape} {e : EltTy} (M : Memref sig .tc sp s e) (c : Dev nD)

/-- A load of a held rectangle continues with what it holds. -/
theorem load_slab {α : Type} {Q : α → sProp 𝕄} {o o' sz : Fin s.rank → ℕ} {h h'} (ho : o = o') {hl : M.view.LoadsAt (Rect.unit o sz h).toLoadRect}
    {k : ((Rect.unit o sz h).shape.Idx → Elt F e) → Prog (TpuEff nD τ sig (Elt F) Λ₀ .tc) α} (Y : (Rect.unit o' sz h').shape.Idx → Elt F e) :
    Slab M c (Rect.unit o' sz h') Y
      ⊢ iprop((Slab M c (Rect.unit o' sz h') Y -∗ wp frame (wpE (defs₀ (F := F)) 𝒱₀ (c : Thread nD τ) none) Set.univ (k Y) Q)
        -∗ wp frame (wpE (defs₀ (F := F)) 𝒱₀ (c : Thread nD τ) none) Set.univ (.op (.load M (Rect.unit o sz h).toLoadRect hl) k) Q) := by
  subst ho
  unfold Slab
  iintro ⟨%f, %hf, H⟩ Hk
  iapply (wp_load_rect 𝒱₀ (c : Thread nD τ) none Set.univ (S := (M.access (Rect.unit o sz h)).set) (q := fullShare) (f := f) (Finset.Subset.refl _)) $$ H
  iintro H
  rw [hf]
  iapply Hk
  iexists f
  isplitr; · ipureintro; exact hf
  iexact H

/-- A load whose answer is not used. -/
theorem load_any {α : Type} {Q : α → sProp 𝕄} {o o' sz : Fin s.rank → ℕ} {h h'} (ho : o = o') {hl : M.view.LoadsAt (Rect.unit o sz h).toLoadRect}
    {k : ((Rect.unit o sz h).shape.Idx → Elt F e) → Prog (TpuEff nD τ sig (Elt F) Λ₀ .tc) α} :
    SlabE M c (Rect.unit o' sz h')
      ⊢ iprop((∀ v, SlabE M c (Rect.unit o' sz h') -∗ wp frame (wpE (defs₀ (F := F)) 𝒱₀ (c : Thread nD τ) none) Set.univ (k v) Q)
        -∗ wp frame (wpE (defs₀ (F := F)) 𝒱₀ (c : Thread nD τ) none) Set.univ (.op (.load M (Rect.unit o sz h).toLoadRect hl) k) Q) := by
  subst ho
  unfold SlabE
  iintro ⟨%f, H⟩ Hk
  iapply (wp_load_rect 𝒱₀ (c : Thread nD τ) none Set.univ (S := (M.access (Rect.unit o sz h)).set) (q := fullShare) (f := f) (Finset.Subset.refl _)) $$ H
  iintro H
  iapply Hk
  iexists f; iexact H

/-- A store over a held rectangle. -/
theorem store_slab {α : Type} {Q : α → sProp 𝕄} {o o' sz : Fin s.rank → ℕ} {h h'} (ho : o = o') {w : (Rect.unit o sz h).shape.Idx → Elt F e} {hx hm}
    {k : PUnit → Prog (TpuEff nD τ sig (Elt F) Λ₀ .tc) α} (Y : (Rect.unit o' sz h').shape.Idx → Elt F e) (hw : w = Y) :
    SlabE M c (Rect.unit o' sz h')
      ⊢ iprop((Slab M c (Rect.unit o' sz h') Y -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit o sz h) w Finset.univ hx hm) k) Q) := by
  subst ho; subst hw
  unfold SlabE Slab
  iintro ⟨%f, H⟩ Hk
  iapply (wp_store 𝒱₀ (c : Thread nD τ) none Set.univ (S := (M.access (Rect.unit o sz h)).set) (f := f) (Finset.Subset.refl _)) $$ H
  iintro H
  iapply Hk
  iexists ((M.access (Rect.unit o sz h)).write (Elt F) f w Finset.univ)
  isplitr
  · ipureintro; exact View.read_write_univ _ _
  iexact H
end Mem

/-- A load of a row block of the operand. -/
theorem load_x {α : Type} {Q : α → sProp 𝕄} (c : Dev nD) {o : Fin 2 → ℕ} {h} (b : Dev nD) (ho : o = ![b.val * 512, 0]) {hl : (xM : Memref sig .tc .vmem S4096x512 .fp8e5m2).view.LoadsAt (Rect.unit (s := S4096x512) o S512x512.size h).toLoadRect}
    {k : ((Rect.unit (s := S4096x512) o S512x512.size h).shape.Idx → Elt F .fp8e5m2) → Prog (TpuEff nD τ sig (Elt F) Λ₀ .tc) α} :
    xHeld X c
      ⊢ iprop((xHeld X c -∗ wp frame (wpE (defs₀ (F := F)) 𝒱₀ (c : Thread nD τ) none) Set.univ (k (xrow X c b)) Q)
        -∗ wp frame (wpE (defs₀ (F := F)) 𝒱₀ (c : Thread nD τ) none) Set.univ (.op (.load xM (Rect.unit (s := S4096x512) o S512x512.size h).toLoadRect hl) k) Q) := by
  subst ho
  unfold xHeld xrow
  exact wp_load 𝒱₀ (c : Thread nD τ) none Set.univ (Finset.subset_univ _)

/-! ## The barrier -/

theorem bar_signal {α : Type} {Q : α → sProp 𝕄} (c n : Dev nD) (i : Fin 3) (hn : n = xr c (mB i)) {k' : ℕ} (hk' : 1 = k') (l : List Due) {k : PUnit → Prog (TpuEff nD τ sig (Elt F) Λ₀ .tc) α} :
    iprop(records X W K ∗ Owe c (.bar i :: l) ∗ dutyTok ER (barCell (xr c (mB i))) 0 i ∗ bigSepL (msgsOf i) fun x => landE x c)
      ⊢ iprop((Owe c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, .tc) barS k') k) Q) := by
  subst hn
  unfold Owe
  iintro ⟨#HR, ⟨%Wt, HO⟩, Ht, Hp⟩ Hk
  iapply (Rounds.wp_signal 𝒱₀ ER (Rd X W) (c : Thread nD τ) none (dst := (xr c (mB i) : Thread nD τ)) (κ := K (xr c (mB i), none)) (r := 0)
      (d := i) (by rw [duties_bar]; exact Finset.mem_univ _) ((amount_bar X W (xr c (mB i)) i).trans hk') () (dues c l) (by rw [← hk'])) $$ [HO Ht Hp]
  · isplitr; · iapply (inv_at X W K (xr c (mB i), none)); iexact HR
    isplitl [HO]; · iexact HO
    isplitl [Ht]; · iexact Ht
    isplitl [Hp]
    · rw [payload_bar]; unfold barPay; rw [xr_xr]; iexact Hp
    iapply (reached_at X W K (xr c (mB i), none)); iexact HR
  iintro HO
  iapply Hk
  iexists Wt; iexact HO

theorem bar_wait {α : Type} {Q : α → sProp 𝕄} (c : Dev nD) {k' : ℕ} (hk' : k' = 3) {k : PUnit → Prog (TpuEff nD τ sig (Elt F) Λ₀ .tc) α} :
    iprop(records X W K ∗ levAts L lv ∗ Owe c (msgs.map .msg) ∗ cred (tallyAt (barCell c) () 3) ∗ atPos ER (barCell c) 0 (∅ : Finset (Fin 3)) 0)
      ⊢ iprop(((Owe c (msgs.map .msg) ∗ atPos ER (barCell c) 1 (∅ : Finset (Fin 3)) 0 ∗ bigSepL msgs fun x => landE x (peer x c))
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk'
  unfold Owe
  iintro ⟨#HR, #Hlev, ⟨%Wt, HO⟩, Hc, Hat⟩ Hk
  iapply (Rounds.wp_wait_rest_token 𝒱₀ ER (Rd X W) (c : Thread nD τ) none (κ := K (c, none))
      (wpE_semWait_eq 𝒱₀ (c : Thread nD τ) none Set.univ) (Set.mem_univ _) () (O := dues c (msgs.map .msg)) (W := Wt) (R := 0) (m := 0) (T := ∅)
      (by rw [expect_bar])) $$ [Hc HO Hat]
  · isplitr; · iapply (inv_at X W K (c, none)); iexact HR
    isplitl [Hc]; · iexact Hc
    isplitl [HO]; · iexact HO
    isplitr
    · iapply (mayWait_dues (F := F) c (.reg barS) 1 rfl (msgs.map .msg) (by
        intro d hd; obtain ⟨x, -, rfl⟩ := List.mem_map.mp hd; show 1 < 2 + _; omega)); iexact Hlev
    iexact Hat
  iintro ⟨HO, Hat, -, Hp⟩
  iapply Hk
  isplitl [HO]; · iexists _; iexact HO
  isplitl [Hat]; · iexact Hat
  iapply (Entails.of_eq (rest_bar X W c)); iexact Hp

/-! ## Waiting for a message -/

/-- A device waits for message `x` to land: its slot, holding the peer's partial sum, is its own until the book closes. -/
theorem recv {α : Type} {Q : α → sProp 𝕄} (c : Dev nD) (x : Msg) {todo fly back : List Msg} (l r : List Msg) (hlev : ∀ y ∈ todo, ph x.2 < ph y.2) {q : DmaSem sig} (hq : q = rQ x)
    {sp sp' : Space} {s s' : Shape} {e e' : EltTy} {κ' : Kind} {src : Memref sig .tc sp' s' e'} {dst : Memref sig κ' sp s e} {h1 : src.view.WordExact} {h2 : dst.view.WordExact}
    (hN : dst.view.dmaCredit = NN x.1) {k : PUnit → Prog (TpuEff nD τ sig (Elt F) Λ₀ .tc) α} :
    iprop(records X W K ∗ levAts L lv ∗ Sends c todo fly back ∗ Recvs c (x :: l) r)
      ⊢ iprop(((Sends c todo fly back ∗ Recvs c l r ∗ atPos ER (rCell x c) 1 (∅ : Finset (Fin 3)) 0 ∗ landed X W x c)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  unfold Sends Recvs Owe
  rw [bigSepL_cons']; unfold recvKit
  iintro ⟨#HR, #Hlev, ⟨⟨%Wt, HO⟩, HS⟩, ⟨⟨Hc, Hat⟩, Hl⟩, Hr⟩ Hk
  iapply (Rounds.wp_wait_rest_token 𝒱₀ ER (Rd X W) (c : Thread nD τ) none (κ := K (c, some (true, x)))
      (wpE_waitDma2_eq 𝒱₀ (c : Thread nD τ) none Set.univ) (Set.mem_univ _) () (O := dues c (todo.map .msg)) (W := Wt) (R := 0) (m := 0) (T := ∅)
      (by rw [expect_recv, hN, Nat.zero_add])) $$ [Hc HO Hat]
  · isplitr; · iapply (inv_at X W K (c, some (true, x))); iexact HR
    isplitl [Hc]; · rw [hN]; iexact Hc
    isplitl [HO]; · iexact HO
    isplitr
    · iapply (mayWait_dues (F := F) c (.dma (rQ x)) _ (lv_recv x c) (todo.map .msg) (by
        intro d hd; obtain ⟨y, hy, rfl⟩ := List.mem_map.mp hd; have := hlev y hy; show 2 + _ < 2 + _; omega)); iexact Hlev
    iexact Hat
  iintro ⟨HO, Hat, -, Hp⟩
  iapply Hk
  isplitl [HO HS]
  · isplitl [HO]; · iexists _; iexact HO
    iexact HS
  isplitl [Hl Hr]
  · isplitl [Hl] <;> iassumption
  isplitl [Hat]; · iexact Hat
  iapply (Entails.of_eq (rest_recv X W x c)); iexact Hp

theorem recvs_close (c : Dev nD) (x : Msg) (l r : List Msg) :
    iprop(Recvs (F := F) c l r ∗ atPos ER (rCell x c) 1 (∅ : Finset (Fin 3)) 0 ∗ landE x c) ⊢ Recvs c l (x :: r) := by
  unfold Recvs
  rw [bigSepL_cons']; unfold rcvd
  iintro ⟨⟨Hl, Hr⟩, Hat, Hx⟩
  isplitl [Hl]; · iexact Hl
  isplitl [Hat Hx]
  · isplitl [Hx] <;> iassumption
  iexact Hr

/-- A device waits for message `x`'s source to be read. -/
theorem send_wait {α : Type} {Q : α → sProp 𝕄} (c : Dev nD) (x : Msg) (l r : List Msg) {q : DmaSem sig} (hq : q = sQ x)
    {sp sp' : Space} {s s' : Shape} {e e' : EltTy} {κ' : Kind} {src : Memref sig .tc sp' s' e'} {dst : Memref sig κ' sp s e} {h1 : src.view.WordExact} {h2 : dst.view.WordExact}
    (hN : dst.view.dmaCredit = NN x.1) {k : PUnit → Prog (TpuEff nD τ sig (Elt F) Λ₀ .tc) α} :
    iprop(records X W K ∗ levAts L lv ∗ Sends c [] (x :: l) r)
      ⊢ iprop((Sends c [] l (x :: r) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  subst hq
  unfold Sends Owe
  simp only [bigSepL_cons']; unfold inFlight sent
  iintro ⟨#HR, #Hlev, ⟨%Wt, HO⟩, Ht, ⟨⟨Hc, Hat⟩, Hl⟩, Hr⟩ Hk
  iapply (Rounds.wp_wait_rest_token 𝒱₀ ER (Rd X W) (c : Thread nD τ) none (κ := K (c, some (false, x)))
      (wpE_waitDma2_eq 𝒱₀ (c : Thread nD τ) none Set.univ) (Set.mem_univ _) () (O := dues c []) (W := Wt) (R := 0) (m := 0) (T := ∅)
      (by rw [expect_send, hN, Nat.zero_add])) $$ [Hc HO Hat]
  · isplitr; · iapply (inv_at X W K (c, some (false, x))); iexact HR
    isplitl [Hc]; · rw [hN]; iexact Hc
    isplitl [HO]; · iexact HO
    isplitr
    · iapply (mayWait_dues (F := F) c (.dma (sQ x)) _ (lv_send x c) [] (by intro d hd; cases hd)); iexact Hlev
    iexact Hat
  iintro ⟨HO, Hat, -, Hp⟩
  iapply Hk
  isplitl [HO]; · iexists _; iexact HO
  isplitl [Ht]; · iexact Ht
  isplitl [Hl]; · iexact Hl
  isplitl [Hat Hp]
  · isplitl [Hp]
    · iapply (Entails.of_eq (rest_send X W x c)); iexact Hp
    iexact Hat
  iexact Hr

/-! ## Starting a message -/

omit [FloatOps F] in
/-- A slab copied whole, through two views which drop the same unit axis, arrives as it was. -/
theorem read_copied {s t : Shape} {e : EltTy} {κ κ' : Kind} {sp sp' : Space} (vs : View sig κ sp s e) (vd : View sig κ' sp' s e) (h h' : t.numel = s.numel)
    (fs : vs.ty.Contents (Elt F)) (fd : vd.ty.Contents (Elt F)) :
    vd.read (Elt F) ((vd.reshape t h).write (Elt F) fd ((vs.reshape t h').read (Elt F) fs) Finset.univ) = vs.read (Elt F) fs := by
  funext x
  obtain ⟨y, rfl⟩ := (Shape.reshapeEquiv h).surjective x
  have e := (vd.reshape t h).read_write_univ (Val := Elt F) fd ((vs.reshape t h').read (Elt F) fs)
  exact congrFun e y

/-- A view's elements on device `c`, held outright; -/
def Held {sp : Space} {s : Shape} {e : EltTy} (M : Memref sig .tc sp s e) (c : Dev nD) (f : Buf (Elt F) (M.view.loc (c : Thread nD τ))) : sProp 𝕄 :=
  (M.view.loc (c : Thread nD τ) ↦[M.view.set]{fullShare} f)

omit [FloatOps F] in
/-- a slab's elements are those of the view with its unit axis dropped. -/
theorem held_squeeze {sp : Space} {s t : Shape} {e : EltTy} (M : Memref sig .tc sp s e) (c : Dev nD) (r : Rect s) (hs : ∀ a, r.stride a = 1) (hq : r.shape.Squeezes t)
    (f : Buf (Elt F) ((M.access r).loc (c : Thread nD τ))) :
    (Held ((M.slice r hs).squeeze t hq) c f : sProp 𝕄) = ((M.access r).loc (c : Thread nD τ) ↦[(M.access r).set]{fullShare} f) := by
  unfold Held
  have h : ((M.slice r hs).squeeze t hq).view.set = (M.access r).set := View.set_reshape _ _
  exact congrArg (fun S : Finset (Idx ((M.access r).loc (c : Thread nD τ))) => ((M.access r).loc (c : Thread nD τ) ↦[S]{fullShare} f : sProp 𝕄)) h

/-- Message `x` is started through any two views; -/
theorem send_view {α : Type} {Q : α → sProp 𝕄} (c : Dev nD) (x : Msg) {t : Shape} (src : Memref sig .tc .vmem t .bf16) (dst : Memref sig .tc .vmem t .bf16)
    (fs : Buf (Elt F) (src.view.loc (c : Thread nD τ))) (fd : Buf (Elt F) (dst.view.loc (peer x c : Thread nD τ)))
    (hN : dst.view.dmaCredit = NN x.1)
    (hp1 : Held src c fs ⊢ srcE (F := F) x c)
    (hp2 : Held dst (peer x c) (dst.view.write (Elt F) fd (src.view.read (Elt F) fs) Finset.univ) ⊢ landed X W x (peer x c))
    {hsc} {h1 : src.view.WordExact} {h2 : dst.view.WordExact} {h3}
    {k : PUnit → Prog (TpuEff nD τ sig (Elt F) Λ₀ .tc) α} (l : List Due) :
    iprop(records X W K ∗ Owe c (.msg x :: l) ∗ Held src c fs ∗ Held dst (peer x c) fd
        ∗ dutyTok ER (sCell x c) 0 (0 : Fin 3) ∗ dutyTok ER (rCell x (peer x c)) 0 (0 : Fin 3))
      ⊢ iprop(((cred (tallyAt (sCell x c) () (NN x.1)) ∗ Owe c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc (peer x c) : Thread nD τ) dst (.dma (sQ x)) hsc) (.dma (rQ x)) h1 h2 h3) k) Q) := by
  unfold Owe
  iintro ⟨#HR, ⟨%Wt, HO⟩, Hs, Hd, Hts, Htr⟩ Hk
  iapply (Rounds.wp_send_pointsTo 𝒱₀ ER (Rd X W) (c : Thread nD τ) none (src := src) (dst := dst) (sem := .dma (rQ x)) (sS := .dma (sQ x))
      (c' := (Dev.tc (peer x c) : Thread nD τ)) (κ₁ := K (c, some (false, x))) (κ₂ := K (peer x c, some (true, x)))
      (r₁ := 0) (r₂ := 0) (d₁ := (0 : Fin 3)) (d₂ := (0 : Fin 3)) (fs := fs) (fd := fd) (q := fullShare)
      (by rw [duties_send]; exact Finset.mem_singleton_self _) (by rw [duties_recv]; exact Finset.mem_singleton_self _)
      () () (NN x.1) hN (amount_send X W x c 0) (amount_recv X W x (peer x c) 0) (dues c l) rfl (W := Wt)
      (by rw [payload_send]; exact hp1) (by rw [payload_recv]; exact hp2)) $$ [Hs Hd HO Hts Htr]
  · isplitr; · iapply (inv_at X W K (c, some (false, x))); iexact HR
    isplitr; · iapply (inv_at X W K (peer x c, some (true, x))); iexact HR
    isplitl [Hs]; · unfold Held; iexact Hs
    isplitl [Hd]; · unfold Held; iexact Hd
    isplitl [HO]; · iexact HO
    isplitl [Hts]; · iexact Hts
    isplitr; · iapply (reached_at X W K (c, some (false, x))); iexact HR
    isplitl [Htr]; · iexact Htr
    iapply (reached_at X W K (peer x c, some (true, x))); iexact HR
  iintro ⟨Hc, HO⟩
  iapply Hk
  isplitl [Hc]; · iexact Hc
  iexists _; iexact HO

/-- through a slab and the peer's slot: they go with it, and the next due is paid. -/
theorem send {α : Type} {Q : α → sProp 𝕄} (c n : Dev nD) (x : Msg) (hn : n = peer x c) {dp dr sz : Fin 3 → ℕ} {t : Shape}
    (pM : Memref sig .tc .vmem ⟨3, dp⟩ .bf16) (rM : Memref sig .tc .vmem ⟨3, dr⟩ .bf16)
    {op op' or or' : Fin 3 → ℕ} {hp hp' hr hr'} (hop : op = op') (hor : or = or') (V : (⟨3, sz⟩ : Shape).Idx → Elt F .bf16)
    (hsrc : srcE (F := F) x c = SlabE pM c (Rect.unit op' sz hp'))
    (hlandE : landE (F := F) x (peer x c) = SlabE rM (peer x c) (Rect.unit or' sz hr'))
    (hland : landed X W x (peer x c) = Slab rM (peer x c) (Rect.unit or' sz hr') V)
    {hs : ∀ a, (Rect.unit (s := ⟨3, dp⟩) op sz hp).stride a = 1} {hd : ∀ a, (Rect.unit (s := ⟨3, dr⟩) or sz hr).stride a = 1}
    {hq : (Rect.unit (s := ⟨3, dp⟩) op sz hp).shape.Squeezes t} {hq' : (Rect.unit (s := ⟨3, dr⟩) or sz hr).shape.Squeezes t}
    {qs qr : DmaSem sig} (hqs : qs = sQ x) (hqr : qr = rQ x)
    (hN : ((rM.slice (Rect.unit or sz hr) hd).squeeze t hq').view.dmaCredit = NN x.1)
    {hsc} {h1 : ((pM.slice (Rect.unit op sz hp) hs).squeeze t hq).view.WordExact} {h2 : ((rM.slice (Rect.unit or sz hr) hd).squeeze t hq').view.WordExact} {h3}
    {k : PUnit → Prog (TpuEff nD τ sig (Elt F) Λ₀ .tc) α} (todo fly back : List Msg) :
    iprop(records X W K ∗ Sends c (x :: todo) fly back ∗ Slab pM c (Rect.unit op' sz hp') V)
      ⊢ iprop((Sends c todo (x :: fly) back -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((pM.slice (Rect.unit op sz hp) hs).squeeze t hq)
            (.remote (Dev.tc n : Thread nD τ) ((rM.slice (Rect.unit or sz hr) hd).squeeze t hq') (.dma qs) hsc) (.dma qr) h1 h2 h3) k) Q) := by
  subst hn; subst hop; subst hor; subst hqs; subst hqr
  unfold Sends
  simp only [bigSepL_cons']; unfold sendKit
  rw [hlandE]; unfold Slab SlabE
  iintro ⟨#HR, ⟨HO, ⟨⟨⟨%fd, Hd⟩, Hts, Htr, Hat⟩, Ht⟩, Hf, Hb⟩, ⟨%fs, %hfs, Hs⟩⟩ Hk
  iapply (send_view X W K c x ((pM.slice (Rect.unit op sz hp) hs).squeeze t hq) ((rM.slice (Rect.unit or sz hr) hd).squeeze t hq') fs fd hN
      (by rw [held_squeeze, hsrc]; unfold SlabE; iintro H; iexists fs; iexact H)
      (by
        rw [hland]; unfold Slab
        rw [held_squeeze]
        iintro H; iexists _
        isplitr
        rotate_left
        · iexact H
        · ipureintro
          exact (read_copied (pM.access (Rect.unit op sz hp)) (rM.access (Rect.unit or sz hr)) _ _ fs fd).trans hfs) (todo.map .msg)) $$ [Hs Hd HO Hts Htr]
  · isplitr; · iexact HR
    isplitl [HO]; · iexact HO
    isplitl [Hs]; · rw [held_squeeze]; iexact Hs
    isplitl [Hd]; · rw [held_squeeze]; iexact Hd
    isplitl [Hts] <;> iassumption
  iintro ⟨Hc, HO⟩
  iapply Hk
  isplitl [HO]; · iexact HO
  isplitl [Ht]; · iexact Ht
  isplitl [Hc Hat Hf]
  · isplitl [Hc Hat]
    · unfold inFlight; isplitl [Hc] <;> iassumption
    iexact Hf
  iexact Hb

/-! ## The three groups -/

/-- What lands of message `(o, s)` at its peer is the sender's partial sum of the row block sent. -/
theorem landed0 (c : Dev nD) (s : Fin 7) : landed X W (0, s) (peer (0, s) c) = Slab rM0 (peer (0, s) c) (rR0 s) (sum0 X W (ph s) c (xr c (off (0, s)))) := by
  show Slab rM0 _ (rR0 s) (sum0 X W (ph s) (peer (0, s) (peer (0, s) c)) (xr (peer (0, s) c) (kept (0, s)))) = _
  rw [peer_peer, xr_peer_kept]
@[inherit_doc landed0] theorem landed1 (c : Dev nD) (s : Fin 7) : landed X W (1, s) (peer (1, s) c) = Slab rM1 (peer (1, s) c) (rR1 s) (sum1 X W (ph s) c (xr c (off (1, s)))) := by
  show Slab rM1 _ (rR1 s) (sum1 X W (ph s) (peer (1, s) (peer (1, s) c)) (xr (peer (1, s) c) (kept (1, s)))) = _
  rw [peer_peer, xr_peer_kept]
@[inherit_doc landed0] theorem landed2 (c : Dev nD) (s : Fin 7) : landed X W (2, s) (peer (2, s) c) = Slab rM2 (peer (2, s) c) (rR1 s) (sum2 X W (ph s) c (xr c (off (2, s)))) := by
  show Slab rM2 _ (rR1 s) (sum2 X W (ph s) (peer (2, s) (peer (2, s) c)) (xr (peer (2, s) c) (kept (2, s)))) = _
  rw [peer_peer, xr_peer_kept]

section Group
variable {sp : CoreSpace} {s : Shape} {e : EltTy} (pM : Memref sig .tc sp s e) (c : Dev nD)

/-- A row block's product: its rows of the operand loaded, the slab loaded (not used) and stored over. -/
theorem chunk {α : Type} {Q : α → sProp 𝕄} (b : Dev nD) {o : Fin 2 → ℕ} {h} (ho : o = ![b.val * 512, 0]) {hl : (xM : Memref sig .tc .vmem S4096x512 .fp8e5m2).view.LoadsAt (Rect.unit (s := S4096x512) o S512x512.size h).toLoadRect}
    {op op' sz : Fin s.rank → ℕ} {hp hp'} (hop : op = op') {hl' : pM.view.LoadsAt (Rect.unit op sz hp).toLoadRect} {hx hm}
    (g : ((Rect.unit (s := S4096x512) o S512x512.size h).shape.Idx → Elt F .fp8e5m2) → (Rect.unit op sz hp).shape.Idx → Elt F e)
    {k : PUnit → Prog (TpuEff nD τ sig (Elt F) Λ₀ .tc) α} (Y : (Rect.unit op' sz hp').shape.Idx → Elt F e) (hY : g (xrow X c b) = Y) :
    iprop(xHeld X c ∗ SlabE pM c (Rect.unit op' sz hp'))
      ⊢ iprop(((xHeld X c ∗ Slab pM c (Rect.unit op' sz hp') Y) -∗ wp frame (wpE (defs₀ (F := F)) 𝒱₀ (c : Thread nD τ) none) Set.univ (k ⟨⟩) Q)
        -∗ wp frame (wpE (defs₀ (F := F)) 𝒱₀ (c : Thread nD τ) none) Set.univ
          (.op (.load xM (Rect.unit (s := S4096x512) o S512x512.size h).toLoadRect hl) fun v =>
            .op (.load pM (Rect.unit op sz hp).toLoadRect hl') fun _ => .op (.store pM (Rect.unit op sz hp) (g v) Finset.univ hx hm) k) Q) := by
  iintro ⟨HX, HP⟩ Hk
  iapply (load_x X c b ho) $$ HX
  iintro HX
  iapply (load_any pM c hop) $$ HP
  iintro %v HP
  iapply (store_slab pM c hop Y hY) $$ HP
  iintro HP
  iapply Hk
  isplitl [HX] <;> iassumption

variable {s' : Shape} (rM : Memref sig .tc sp s' e)

/-- A received message added to a row block: the slot's semaphore waited for, both loaded, the sum stored. -/
theorem recv_add {α : Type} {Q : α → sProp 𝕄} (x : Msg) {todo fly back : List Msg} (l r : List Msg) (hlev : ∀ y ∈ todo, ph x.2 < ph y.2) {q : DmaSem sig} (hq : q = rQ x)
    {sp₁ sp₂ : Space} {s₁ s₂ : Shape} {e₁ e₂ : EltTy} {κ' : Kind} {src : Memref sig .tc sp₁ s₁ e₁} {dst : Memref sig κ' sp₂ s₂ e₂} {h1 : src.view.WordExact} {h2 : dst.view.WordExact}
    (hN : dst.view.dmaCredit = NN x.1)
    {op op' sz : Fin s.rank → ℕ} {hp hp'} (hop : op = op') {or or' sz' : Fin s'.rank → ℕ} {hr hr'} (hor : or = or')
    {hl₁ hl₂ : pM.view.LoadsAt (Rect.unit op sz hp).toLoadRect} {hl₃ : rM.view.LoadsAt (Rect.unit or sz' hr).toLoadRect} {hx hm}
    (g : ((Rect.unit op sz hp).shape.Idx → Elt F e) → ((Rect.unit or sz' hr).shape.Idx → Elt F e) → (Rect.unit op sz hp).shape.Idx → Elt F e)
    {k : PUnit → Prog (TpuEff nD τ sig (Elt F) Λ₀ .tc) α}
    (A : (Rect.unit op' sz hp').shape.Idx → Elt F e) (B : (Rect.unit or' sz' hr').shape.Idx → Elt F e) (Y : (Rect.unit op' sz hp').shape.Idx → Elt F e) (hY : g A B = Y)
    (hland : landed X W x c = Slab rM c (Rect.unit or' sz' hr') B) (hlandE : landE (F := F) x c = SlabE rM c (Rect.unit or' sz' hr')) :
    iprop(records X W K ∗ levAts L lv ∗ Sends c todo fly back ∗ Recvs c (x :: l) r ∗ Slab pM c (Rect.unit op' sz hp') A)
      ⊢ iprop(((Sends c todo fly back ∗ Recvs c l (x :: r) ∗ Slab pM c (Rect.unit op' sz hp') Y)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 q src dst h1 h2) fun _ => .op (.load pM (Rect.unit op sz hp).toLoadRect hl₁) fun a => .op (.load rM (Rect.unit or sz' hr).toLoadRect hl₃) fun b =>
            .op (.load pM (Rect.unit op sz hp).toLoadRect hl₂) fun _ => .op (.store pM (Rect.unit op sz hp) (g a b) Finset.univ hx hm) k) Q) := by
  iintro ⟨#HR, #Hlev, HS, HV, HP⟩ Hk
  iapply (recv X W K c x l r hlev hq hN) $$ [HS HV]
  · isplitr; · iexact HR
    isplitr; · iexact Hlev
    isplitl [HS] <;> iassumption
  rw [hland]
  iintro ⟨HS, HV, Hat, HB⟩
  iapply (load_slab pM c hop A) $$ HP
  iintro HP
  iapply (load_slab rM c hor B) $$ HB
  iintro HB
  iapply (load_slab pM c hop A) $$ HP
  iintro HP
  ihave HP := (Slab_to_E pM c _ A) $$ HP
  iapply (store_slab pM c hop Y hY) $$ HP
  iintro HP
  iapply Hk
  isplitl [HS]; · iexact HS
  isplitl [HV Hat HB]
  · iapply (recvs_close c x l r)
    isplitl [HV]; · iexact HV
    isplitl [Hat]; · iexact Hat
    rw [hlandE]
    iapply (Slab_to_E rM c _ B); iexact HB
  iexact HP

end Group

end Steps

end Cert.Proof.Kern

end
-- ==== Proof.Groups.lean ====
/-
  The rules of `Steps` at the three column groups, in the form in which the kernel's text meets them: a row block is named
  by its number relative to the device, a slab's contents by the phases it has been summed over.
-/
module

public import proofs.«01_k».proof.Proof.Steps

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem lvl_succ {V : Type} (add : V → V → V) (m : Fin 3 → Dev nD) (P : Dev nD → Dev nD → V) (k : Fin 3) (hk : k ≠ 2) (c b : Dev nD) :
    add (lvl add m P k c b) (lvl add m P k (xr c (m k)) b) = lvl add m P (k + 1) c b := by
  fin_cases k
  · rfl
  · rfl
  · exact absurd rfl hk

section
variable (X : Dev nD → FVec F S4096x512 .fp8e5m2) (W : Dev nD → FVec F S512x2048 .fp8e5m2)
variable (K : Dev nD × CI → ℕ) (c : Dev nD)

/-- What stays known throughout. -/
def Know : sProp 𝕄 := iprop(records X W K ∗ levAts L lv)
instance Know_persistent : BI.Persistent (Know X W K) := by unfold Know; infer_instance

/-- Group `o`'s row block `t` (relative to the device), summed over `k` phases; its landing slots' contents. -/
abbrev P0 (t : Fin 8) (k : Fin 3) : sProp 𝕄 := Slab pM0 c (rP0 (xr c t)) (sum0 X W k c (xr c t))
@[inherit_doc P0] abbrev P1 (t : Fin 8) (k : Fin 3) : sProp 𝕄 := Slab pM1 c (rP1 (xr c t)) (sum1 X W k c (xr c t))
@[inherit_doc P0] abbrev P2 (t : Fin 8) (k : Fin 3) : sProp 𝕄 := Slab pM2 c (rP1 (xr c t)) (sum2 X W k c (xr c t))

/-- A row block's product is stored. -/
theorem chunk0 {α : Type} {Q : α → sProp 𝕄} (t : Fin 8) {h hl hp hl' hx hm} {k : PUnit → Prog (TpuEff nD τ sig (Elt F) Λ₀ .tc) α} :
    xHeld X c ⊢ iprop(SlabE pM0 c (rP0 (xr c t)) -∗ (xHeld X c -∗ P0 X W c t 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.load xM (Rect.unit (s := S4096x512) (k0_off1 c (BitVec.ofNat 32 t.val)) S512x512.size h).toLoadRect hl) fun v =>
            .op (.load pM0 (Rect.unit (s := S8x512x640) (k0_off2 c (BitVec.ofNat 32 t.val)) S1x512x640.size hp).toLoadRect hl') fun _ =>
            .op (.store pM0 (Rect.unit (s := S8x512x640) (k0_off2 c (BitVec.ofNat 32 t.val)) S1x512x640.size hp) (k0_pay2 (W c) v) Finset.univ hx hm) k) Q) := by
  iintro HX HP Hk
  iapply (chunk (hp' := inbP0 (xr c t)) X pM0 c (xr c t) (off1_eq c t) (off2_eq c t) (fun v => k0_pay2 (W c) v) (sum0 X W 0 c (xr c t)) rfl) $$ [HX HP]
  · isplitl [HX] <;> iassumption
  iintro ⟨HX, HP⟩
  iapply Hk $$ HX HP
@[inherit_doc chunk0] theorem chunk1 {α : Type} {Q : α → sProp 𝕄} (t : Fin 8) {h hl hp hl' hx hm} {k : PUnit → Prog (TpuEff nD τ sig (Elt F) Λ₀ .tc) α} :
    xHeld X c ⊢ iprop(SlabE pM1 c (rP1 (xr c t)) -∗ (xHeld X c -∗ P1 X W c t 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.load xM (Rect.unit (s := S4096x512) (k0_off1 c (BitVec.ofNat 32 t.val)) S512x512.size h).toLoadRect hl) fun v =>
            .op (.load pM1 (Rect.unit (s := S8x512x704) (k0_off4 c (BitVec.ofNat 32 t.val)) S1x512x704.size hp).toLoadRect hl') fun _ =>
            .op (.store pM1 (Rect.unit (s := S8x512x704) (k0_off4 c (BitVec.ofNat 32 t.val)) S1x512x704.size hp) (k0_pay3 (k0_pay1 (W c)) v) Finset.univ hx hm) k) Q) := by
  iintro HX HP Hk
  iapply (chunk (hp' := inbP1 (xr c t)) X pM1 c (xr c t) (off1_eq c t) (off4_eq c t) (fun v => k0_pay3 (k0_pay1 (W c)) v) (sum1 X W 0 c (xr c t)) rfl) $$ [HX HP]
  · isplitl [HX] <;> iassumption
  iintro ⟨HX, HP⟩
  iapply Hk $$ HX HP
@[inherit_doc chunk0] theorem chunk2 {α : Type} {Q : α → sProp 𝕄} (t : Fin 8) {h hl hp hl' hx hm} {k : PUnit → Prog (TpuEff nD τ sig (Elt F) Λ₀ .tc) α} :
    xHeld X c ⊢ iprop(SlabE pM2 c (rP1 (xr c t)) -∗ (xHeld X c -∗ P2 X W c t 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.load xM (Rect.unit (s := S4096x512) (k0_off1 c (BitVec.ofNat 32 t.val)) S512x512.size h).toLoadRect hl) fun v =>
            .op (.load pM2 (Rect.unit (s := S8x512x704) (k0_off4 c (BitVec.ofNat 32 t.val)) S1x512x704.size hp).toLoadRect hl') fun _ =>
            .op (.store pM2 (Rect.unit (s := S8x512x704) (k0_off4 c (BitVec.ofNat 32 t.val)) S1x512x704.size hp) (k0_pay4 (k0_pay1 (W c)) v) Finset.univ hx hm) k) Q) := by
  iintro HX HP Hk
  iapply (chunk (hp' := inbP1 (xr c t)) X pM2 c (xr c t) (off1_eq c t) (off4_eq c t) (fun v => k0_pay4 (k0_pay1 (W c)) v) (sum2 X W 0 c (xr c t)) rfl) $$ [HX HP]
  · isplitl [HX] <;> iassumption
  iintro ⟨HX, HP⟩
  iapply Hk $$ HX HP

/-- A slab is sent: message `(o, s)` of its phase. -/
theorem send0 {α : Type} {Q : α → sProp 𝕄} (s : Fin 7) (t : Fin 8) (p : Fin 3) (ht : off (0, s) = t) (hk : ph s = p) (n : Dev nD) (hn : n = peer (0, s) c) {hp hr hs hd hq hq'} {hsc} {h1 h2 h3} (todo fly back : List Msg)
    {k : PUnit → Prog (TpuEff nD τ sig (Elt F) Λ₀ .tc) α} :
    Know X W K ⊢ iprop(Sends c ((0, s) :: todo) fly back -∗ P0 X W c t p
      -∗ (Sends c todo ((0, s) :: fly) back -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma ((pM0.slice (Rect.unit (s := S8x512x640) (k0_off3 c (BitVec.ofNat 32 t.val)) S1x512x640.size hp) hs).squeeze S512x640 hq)
            (.remote (Dev.tc n : Thread nD τ) ((rM0.slice (Rect.unit (s := S7x512x640) ![s.val, 0, 0] S1x512x640.size hr) hd).squeeze S512x640 hq') (.dma (sQ (0, s))) hsc) (.dma (rQ (0, s))) h1 h2 h3) k) Q) := by
  subst ht; subst hk
  unfold Know
  iintro ⟨#HR, -⟩ HS HP Hk
  iapply (send X W K c n (0, s) hn pM0 rM0 (off3_eq c (off (0, s))) rfl (sum0 X W (ph s) c (xr c (off (0, s)))) rfl rfl (landed0 X W c s) rfl rfl rfl todo fly back) $$ [HS HP]
  · isplitr; · iexact HR
    isplitl [HS] <;> iassumption
  iexact Hk
@[inherit_doc send0] theorem send1 {α : Type} {Q : α → sProp 𝕄} (s : Fin 7) (t : Fin 8) (p : Fin 3) (ht : off (1, s) = t) (hk : ph s = p) (n : Dev nD) (hn : n = peer (1, s) c) {hp hr hs hd hq hq'} {hsc} {h1 h2 h3} (todo fly back : List Msg)
    {k : PUnit → Prog (TpuEff nD τ sig (Elt F) Λ₀ .tc) α} :
    Know X W K ⊢ iprop(Sends c ((1, s) :: todo) fly back -∗ P1 X W c t p
      -∗ (Sends c todo ((1, s) :: fly) back -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma ((pM1.slice (Rect.unit (s := S8x512x704) (k0_off5 c (BitVec.ofNat 32 t.val)) S1x512x704.size hp) hs).squeeze S512x704 hq)
            (.remote (Dev.tc n : Thread nD τ) ((rM1.slice (Rect.unit (s := S7x512x704) ![s.val, 0, 0] S1x512x704.size hr) hd).squeeze S512x704 hq') (.dma (sQ (1, s))) hsc) (.dma (rQ (1, s))) h1 h2 h3) k) Q) := by
  subst ht; subst hk
  unfold Know
  iintro ⟨#HR, -⟩ HS HP Hk
  iapply (send X W K c n (1, s) hn pM1 rM1 (off5_eq c (off (1, s))) rfl (sum1 X W (ph s) c (xr c (off (1, s)))) rfl rfl (landed1 X W c s) rfl rfl rfl todo fly back) $$ [HS HP]
  · isplitr; · iexact HR
    isplitl [HS] <;> iassumption
  iexact Hk
@[inherit_doc send0] theorem send2 {α : Type} {Q : α → sProp 𝕄} (s : Fin 7) (t : Fin 8) (p : Fin 3) (ht : off (2, s) = t) (hk : ph s = p) (n : Dev nD) (hn : n = peer (2, s) c) {hp hr hs hd hq hq'} {hsc} {h1 h2 h3} (todo fly back : List Msg)
    {k : PUnit → Prog (TpuEff nD τ sig (Elt F) Λ₀ .tc) α} :
    Know X W K ⊢ iprop(Sends c ((2, s) :: todo) fly back -∗ P2 X W c t p
      -∗ (Sends c todo ((2, s) :: fly) back -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma ((pM2.slice (Rect.unit (s := S8x512x704) (k0_off5 c (BitVec.ofNat 32 t.val)) S1x512x704.size hp) hs).squeeze S512x704 hq)
            (.remote (Dev.tc n : Thread nD τ) ((rM2.slice (Rect.unit (s := S7x512x704) ![s.val, 0, 0] S1x512x704.size hr) hd).squeeze S512x704 hq') (.dma (sQ (2, s))) hsc) (.dma (rQ (2, s))) h1 h2 h3) k) Q) := by
  subst ht; subst hk
  unfold Know
  iintro ⟨#HR, -⟩ HS HP Hk
  iapply (send X W K c n (2, s) hn pM2 rM2 (off5_eq c (off (2, s))) rfl (sum2 X W (ph s) c (xr c (off (2, s)))) rfl rfl (landed2 X W c s) rfl rfl rfl todo fly back) $$ [HS HP]
  · isplitr; · iexact HR
    isplitl [HS] <;> iassumption
  iexact Hk

/-- A received slab is added to the row block it belongs to: one phase more. -/
theorem add0 {α : Type} {Q : α → sProp 𝕄} (s : Fin 7) (t : Fin 8) (p p' : Fin 3) (ht : kept (0, s) = t) (hk : ph s = p) (hk' : p + 1 = p') (hs : p ≠ 2) {todo fly back : List Msg} (l r : List Msg) (hlev : ∀ y ∈ todo, p < ph y.2)
    {sp₁ : Space} {s₁ : Shape} {e₁ : EltTy} {src : Memref sig .tc sp₁ s₁ e₁} {hr} {hd : ∀ a, (Rect.unit (s := S7x512x640) ![s.val, 0, 0] S1x512x640.size hr).stride a = 1} {hq} {h1 : src.view.WordExact} {h2} {hp hl₁ hr' hl₂ hl₃ hx hm}
    {k : PUnit → Prog (TpuEff nD τ sig (Elt F) Λ₀ .tc) α} :
    Know X W K ⊢ iprop(Sends c todo fly back -∗ Recvs c ((0, s) :: l) r -∗ P0 X W c t p
      -∗ (Sends c todo fly back -∗ Recvs c l ((0, s) :: r) -∗ P0 X W c t p' -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (0, s)) src ((rM0.slice (Rect.unit (s := S7x512x640) ![s.val, 0, 0] S1x512x640.size hr) hd).squeeze S512x640 hq) h1 h2) fun _ =>
            .op (.load pM0 (Rect.unit (s := S8x512x640) (k0_off2 c (BitVec.ofNat 32 t.val)) S1x512x640.size hp).toLoadRect hl₁) fun a =>
            .op (.load rM0 (Rect.unit (s := S7x512x640) ![s.val, 0, 0] S1x512x640.size hr').toLoadRect hl₂) fun b =>
            .op (.load pM0 (Rect.unit (s := S8x512x640) (k0_off2 c (BitVec.ofNat 32 t.val)) S1x512x640.size hp).toLoadRect hl₃) fun _ =>
            .op (.store pM0 (Rect.unit (s := S8x512x640) (k0_off2 c (BitVec.ofNat 32 t.val)) S1x512x640.size hp) (k0_pay37 a b) Finset.univ hx hm) k) Q) := by
  subst ht; subst hk; subst hk'
  unfold Know
  iintro ⟨#HR, #Hlev⟩ HS HV HP Hk
  iapply (recv_add (hp' := inbP0 (xr c (kept (0, s)))) (hr' := inbR0 s) X W K pM0 c rM0 (0, s) l r hlev rfl (dst := (rM0.slice (Rect.unit (s := S7x512x640) ![s.val, 0, 0] S1x512x640.size hr) hd).squeeze S512x640 hq) rfl
    (off2_eq c (kept (0, s))) rfl (fun a b => k0_pay37 a b) (sum0 X W (ph s) c (xr c (kept (0, s)))) (sum0 X W (ph s) (peer (0, s) c) (xr c (kept (0, s))))
    (sum0 X W (ph s + 1) c (xr c (kept (0, s)))) (lvl_succ _ _ _ (ph s) hs c _) rfl rfl) $$ [HS HV HP]
  · isplitr; · iexact HR
    isplitr; · iexact Hlev
    isplitl [HS]; · iexact HS
    isplitl [HV] <;> iassumption
  iintro ⟨HS, HV, HP⟩
  iapply Hk $$ HS HV HP
@[inherit_doc add0] theorem add1 {α : Type} {Q : α → sProp 𝕄} (s : Fin 7) (t : Fin 8) (p p' : Fin 3) (ht : kept (1, s) = t) (hk : ph s = p) (hk' : p + 1 = p') (hs : p ≠ 2) {todo fly back : List Msg} (l r : List Msg) (hlev : ∀ y ∈ todo, p < ph y.2)
    {sp₁ : Space} {s₁ : Shape} {e₁ : EltTy} {src : Memref sig .tc sp₁ s₁ e₁} {hr} {hd : ∀ a, (Rect.unit (s := S7x512x704) ![s.val, 0, 0] S1x512x704.size hr).stride a = 1} {hq} {h1 : src.view.WordExact} {h2} {hp hl₁ hr' hl₂ hl₃ hx hm}
    {k : PUnit → Prog (TpuEff nD τ sig (Elt F) Λ₀ .tc) α} :
    Know X W K ⊢ iprop(Sends c todo fly back -∗ Recvs c ((1, s) :: l) r -∗ P1 X W c t p
      -∗ (Sends c todo fly back -∗ Recvs c l ((1, s) :: r) -∗ P1 X W c t p' -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (1, s)) src ((rM1.slice (Rect.unit (s := S7x512x704) ![s.val, 0, 0] S1x512x704.size hr) hd).squeeze S512x704 hq) h1 h2) fun _ =>
            .op (.load pM1 (Rect.unit (s := S8x512x704) (k0_off4 c (BitVec.ofNat 32 t.val)) S1x512x704.size hp).toLoadRect hl₁) fun a =>
            .op (.load rM1 (Rect.unit (s := S7x512x704) ![s.val, 0, 0] S1x512x704.size hr').toLoadRect hl₂) fun b =>
            .op (.load pM1 (Rect.unit (s := S8x512x704) (k0_off4 c (BitVec.ofNat 32 t.val)) S1x512x704.size hp).toLoadRect hl₃) fun _ =>
            .op (.store pM1 (Rect.unit (s := S8x512x704) (k0_off4 c (BitVec.ofNat 32 t.val)) S1x512x704.size hp) (k0_pay38 a b) Finset.univ hx hm) k) Q) := by
  subst ht; subst hk; subst hk'
  unfold Know
  iintro ⟨#HR, #Hlev⟩ HS HV HP Hk
  iapply (recv_add (hp' := inbP1 (xr c (kept (1, s)))) (hr' := inbR1 s) X W K pM1 c rM1 (1, s) l r hlev rfl (dst := (rM1.slice (Rect.unit (s := S7x512x704) ![s.val, 0, 0] S1x512x704.size hr) hd).squeeze S512x704 hq) rfl
    (off4_eq c (kept (1, s))) rfl (fun a b => k0_pay38 a b) (sum1 X W (ph s) c (xr c (kept (1, s)))) (sum1 X W (ph s) (peer (1, s) c) (xr c (kept (1, s))))
    (sum1 X W (ph s + 1) c (xr c (kept (1, s)))) (lvl_succ _ _ _ (ph s) hs c _) rfl rfl) $$ [HS HV HP]
  · isplitr; · iexact HR
    isplitr; · iexact Hlev
    isplitl [HS]; · iexact HS
    isplitl [HV] <;> iassumption
  iintro ⟨HS, HV, HP⟩
  iapply Hk $$ HS HV HP
@[inherit_doc add0] theorem add2 {α : Type} {Q : α → sProp 𝕄} (s : Fin 7) (t : Fin 8) (p p' : Fin 3) (ht : kept (2, s) = t) (hk : ph s = p) (hk' : p + 1 = p') (hs : p ≠ 2) {todo fly back : List Msg} (l r : List Msg) (hlev : ∀ y ∈ todo, p < ph y.2)
    {sp₁ : Space} {s₁ : Shape} {e₁ : EltTy} {src : Memref sig .tc sp₁ s₁ e₁} {hr} {hd : ∀ a, (Rect.unit (s := S7x512x704) ![s.val, 0, 0] S1x512x704.size hr).stride a = 1} {hq} {h1 : src.view.WordExact} {h2} {hp hl₁ hr' hl₂ hl₃ hx hm}
    {k : PUnit → Prog (TpuEff nD τ sig (Elt F) Λ₀ .tc) α} :
    Know X W K ⊢ iprop(Sends c todo fly back -∗ Recvs c ((2, s) :: l) r -∗ P2 X W c t p
      -∗ (Sends c todo fly back -∗ Recvs c l ((2, s) :: r) -∗ P2 X W c t p' -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (2, s)) src ((rM2.slice (Rect.unit (s := S7x512x704) ![s.val, 0, 0] S1x512x704.size hr) hd).squeeze S512x704 hq) h1 h2) fun _ =>
            .op (.load pM2 (Rect.unit (s := S8x512x704) (k0_off4 c (BitVec.ofNat 32 t.val)) S1x512x704.size hp).toLoadRect hl₁) fun a =>
            .op (.load rM2 (Rect.unit (s := S7x512x704) ![s.val, 0, 0] S1x512x704.size hr').toLoadRect hl₂) fun b =>
            .op (.load pM2 (Rect.unit (s := S8x512x704) (k0_off4 c (BitVec.ofNat 32 t.val)) S1x512x704.size hp).toLoadRect hl₃) fun _ =>
            .op (.store pM2 (Rect.unit (s := S8x512x704) (k0_off4 c (BitVec.ofNat 32 t.val)) S1x512x704.size hp) (k0_pay38 a b) Finset.univ hx hm) k) Q) := by
  subst ht; subst hk; subst hk'
  unfold Know
  iintro ⟨#HR, #Hlev⟩ HS HV HP Hk
  iapply (recv_add (hp' := inbP1 (xr c (kept (2, s)))) (hr' := inbR1 s) X W K pM2 c rM2 (2, s) l r hlev rfl (dst := (rM2.slice (Rect.unit (s := S7x512x704) ![s.val, 0, 0] S1x512x704.size hr) hd).squeeze S512x704 hq) rfl
    (off4_eq c (kept (2, s))) rfl (fun a b => k0_pay38 a b) (sum2 X W (ph s) c (xr c (kept (2, s)))) (sum2 X W (ph s) (peer (2, s) c) (xr c (kept (2, s))))
    (sum2 X W (ph s + 1) c (xr c (kept (2, s)))) (lvl_succ _ _ _ (ph s) hs c _) rfl rfl) $$ [HS HV HP]
  · isplitr; · iexact HR
    isplitr; · iexact Hlev
    isplitl [HS]; · iexact HS
    isplitl [HV] <;> iassumption
  iintro ⟨HS, HV, HP⟩
  iapply Hk $$ HS HV HP

/-! ## The last phase: the result's columns -/

/-- The last received slab and the kept one go, scaled and cut off below at zero, to a group's columns of the result. -/
theorem finish {sp : CoreSpace} {d : Shape} (pM : Memref sig .tc sp d .bf16) {d' : Shape} (rM : Memref sig .tc sp d' .bf16)
    {α : Type} {Q : α → sProp 𝕄} (x : Msg) {fly back : List Msg} (l r : List Msg) {q : DmaSem sig} (hq : q = rQ x)
    {sp₁ sp₂ : Space} {s₁ s₂ : Shape} {e₁ e₂ : EltTy} {κ' : Kind} {src : Memref sig .tc sp₁ s₁ e₁} {dst : Memref sig κ' sp₂ s₂ e₂} {h1 : src.view.WordExact} {h2 : dst.view.WordExact}
    (hN : dst.view.dmaCredit = NN x.1)
    {op op' sz : Fin d.rank → ℕ} {hp hp'} (hop : op = op') {or sz' : Fin d'.rank → ℕ} {hr} {oo so : Fin 2 → ℕ} {ho}
    {hl₁ : pM.view.LoadsAt (Rect.unit op sz hp).toLoadRect} {hl₂ : rM.view.LoadsAt (Rect.unit or sz' hr).toLoadRect}
    {hl₃ : (oM : Memref sig .tc .vmem S512x2048 .f32).view.LoadsAt (Rect.unit (s := S512x2048) oo so ho).toLoadRect} {hx hm}
    (g : ((Rect.unit op sz hp).shape.Idx → Elt F .bf16) → ((Rect.unit or sz' hr).shape.Idx → Elt F .bf16) → (Rect.unit (s := S512x2048) oo so ho).shape.Idx → Elt F .f32)
    {k : PUnit → Prog (TpuEff nD τ sig (Elt F) Λ₀ .tc) α} (f : FVec F S512x2048 .f32)
    (A : (Rect.unit op' sz hp').shape.Idx → Elt F .bf16) (B : (Rect.unit or sz' hr).shape.Idx → Elt F .bf16) (Y : (Rect.unit (s := S512x2048) oo so ho).shape.Idx → Elt F .f32) (hY : g A B = Y)
    (hland : landed X W x c = Slab rM c (Rect.unit or sz' hr) B) (hlandE : landE (F := F) x c = SlabE rM c (Rect.unit or sz' hr)) :
    iprop(records X W K ∗ levAts L lv ∗ Sends c [] fly back ∗ Recvs c (x :: l) r ∗ Slab pM c (Rect.unit op' sz hp') A ∗ oHeld c f)
      ⊢ iprop(((Sends c [] fly back ∗ Recvs c l (x :: r) ∗ Slab pM c (Rect.unit op' sz hp') A
              ∗ oHeld c (((oM : Memref sig .tc .vmem S512x2048 .f32).access (Rect.unit (s := S512x2048) oo so ho)).write (Elt F) f Y Finset.univ))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 q src dst h1 h2) fun _ => .op (.load pM (Rect.unit op sz hp).toLoadRect hl₁) fun a => .op (.load rM (Rect.unit or sz' hr).toLoadRect hl₂) fun b =>
            .op (.load oM (Rect.unit (s := S512x2048) oo so ho).toLoadRect hl₃) fun _ => .op (.store oM (Rect.unit (s := S512x2048) oo so ho) (g a b) Finset.univ hx hm) k) Q) := by
  iintro ⟨#HR, #Hlev, HS, HV, HP, HO⟩ Hk
  iapply (recv X W K c x l r (todo := []) (by intro y hy; cases hy) hq hN) $$ [HS HV]
  · isplitr; · iexact HR
    isplitr; · iexact Hlev
    isplitl [HS] <;> iassumption
  rw [hland]
  iintro ⟨HS, HV, Hat, HB⟩
  iapply (load_slab pM c hop A) $$ HP
  iintro HP
  iapply (load_slab rM c rfl B) $$ HB
  iintro HB
  unfold oHeld
  iapply (wp_load 𝒱₀ (c : Thread nD τ) none Set.univ (m := oM) (Finset.subset_univ _)) $$ HO
  iintro HO
  rw [hY]
  iapply (wp_store 𝒱₀ (c : Thread nD τ) none Set.univ (m := oM) (r := Rect.unit (s := S512x2048) oo so ho) (Mk := Finset.univ) (Finset.subset_univ _)) $$ HO
  iintro HO
  iapply Hk
  isplitl [HS]; · iexact HS
  isplitl [HV Hat HB]
  · iapply (recvs_close c x l r)
    isplitl [HV]; · iexact HV
    isplitl [Hat]; · iexact Hat
    rw [hlandE]
    iapply (Slab_to_E rM c _ B); iexact HB
  isplitl [HP] <;> iassumption

/-- The three groups' columns of the result, and what goes there at scale `z`. -/
abbrev rO0 : Rect S512x2048 := Rect.unit (s := S512x2048) ![0, 0] S512x640.size inb_S512x2048_S512x640_0_0
@[inherit_doc rO0] abbrev rO1 : Rect S512x2048 := Rect.unit (s := S512x2048) ![0, 640] S512x704.size inb_S512x2048_S512x704_0_640
@[inherit_doc rO0] abbrev rO2 : Rect S512x2048 := Rect.unit (s := S512x2048) ![0, 1344] S512x704.size inb_S512x2048_S512x704_0_1344
@[inherit_doc rO0] def y0 (z : F .f32) : FVec F S512x640 .f32 := k0_pay57 z (k0_pay56 (sum0 X W 2 c (xr c 0))) (sum0 X W 2 (peer (0, 6) c) (xr c 0))
@[inherit_doc rO0] def y1 (z : F .f32) : FVec F S512x704 .f32 := k0_pay58 z (sum1 X W 2 c (xr c 0)) (sum1 X W 2 (peer (1, 6) c) (xr c 0))
@[inherit_doc rO0] def y2 (z : F .f32) : FVec F S512x704 .f32 := k0_pay59 z (sum2 X W 2 c (xr c 0)) (sum2 X W 2 (peer (2, 6) c) (xr c 0))
/-- The result's buffer with a group's columns written. -/
def put0 (z : F .f32) (f : FVec F S512x2048 .f32) : FVec F S512x2048 .f32 := ((oM : Memref sig .tc .vmem S512x2048 .f32).access rO0).write (Elt F) f (y0 X W c z) Finset.univ
@[inherit_doc put0] def put1 (z : F .f32) (f : FVec F S512x2048 .f32) : FVec F S512x2048 .f32 := ((oM : Memref sig .tc .vmem S512x2048 .f32).access rO1).write (Elt F) f (y1 X W c z) Finset.univ
@[inherit_doc put0] def put2 (z : F .f32) (f : FVec F S512x2048 .f32) : FVec F S512x2048 .f32 := ((oM : Memref sig .tc .vmem S512x2048 .f32).access rO2).write (Elt F) f (y2 X W c z) Finset.univ

/-- The rule at each group. -/
theorem out0 {α : Type} {Q : α → sProp 𝕄} (z : F .f32) {fly back : List Msg} (l r : List Msg)
    {sp₁ : Space} {s₁ : Shape} {e₁ : EltTy} {src : Memref sig .tc sp₁ s₁ e₁} {hr} {hd : ∀ a, (Rect.unit (s := S7x512x640) ![6, 0, 0] S1x512x640.size hr).stride a = 1} {hq} {h1 : src.view.WordExact} {h2} {hp hl₁ hr' hl₂ ho hl₃ hx hm}
    {k : PUnit → Prog (TpuEff nD τ sig (Elt F) Λ₀ .tc) α} (f : FVec F S512x2048 .f32) :
    Know X W K ⊢ iprop(Sends c [] fly back -∗ Recvs c ((0, 6) :: l) r -∗ P0 X W c 0 2 -∗ oHeld c f
      -∗ (Sends c [] fly back -∗ Recvs c l ((0, 6) :: r) -∗ P0 X W c 0 2 -∗ oHeld c (put0 X W c z f) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (0, 6)) src ((rM0.slice (Rect.unit (s := S7x512x640) ![6, 0, 0] S1x512x640.size hr) hd).squeeze S512x640 hq) h1 h2) fun _ =>
            .op (.load pM0 (Rect.unit (s := S8x512x640) (k0_off6 c) S1x512x640.size hp).toLoadRect hl₁) fun a =>
            .op (.load rM0 (Rect.unit (s := S7x512x640) ![6, 0, 0] S1x512x640.size hr').toLoadRect hl₂) fun b =>
            .op (.load oM (Rect.unit (s := S512x2048) ![0, 0] S512x640.size ho).toLoadRect hl₃) fun _ =>
            .op (.store oM (Rect.unit (s := S512x2048) ![0, 0] S512x640.size ho) (k0_pay57 z (k0_pay56 a) b) Finset.univ hx hm) k) Q) := by
  unfold Know put0
  iintro ⟨#HR, #Hlev⟩ HS HV HP HO Hk
  iapply (finish X W K c pM0 rM0 (0, 6) l r rfl (oo := ![0, 0]) (so := S512x640.size) (hr := inbR0 6) (hp' := inbP0 (xr c 0)) (dst := (rM0.slice (Rect.unit (s := S7x512x640) ![6, 0, 0] S1x512x640.size hr) hd).squeeze S512x640 hq) rfl
    (off6_eq c) (fun a b => k0_pay57 z (k0_pay56 a) b) f (sum0 X W 2 c (xr c 0)) (sum0 X W 2 (peer (0, 6) c) (xr c 0)) (y0 X W c z) rfl rfl rfl) $$ [HS HV HP HO]
  · isplitr; · iexact HR
    isplitr; · iexact Hlev
    isplitl [HS]; · iexact HS
    isplitl [HV]; · iexact HV
    isplitl [HP] <;> iassumption
  iintro ⟨HS, HV, HP, HO⟩
  iapply Hk $$ HS HV HP HO

@[inherit_doc out0] theorem out1 {α : Type} {Q : α → sProp 𝕄} (z : F .f32) {fly back : List Msg} (l r : List Msg)
    {sp₁ : Space} {s₁ : Shape} {e₁ : EltTy} {src : Memref sig .tc sp₁ s₁ e₁} {hr} {hd : ∀ a, (Rect.unit (s := S7x512x704) ![6, 0, 0] S1x512x704.size hr).stride a = 1} {hq} {h1 : src.view.WordExact} {h2} {hp hl₁ hr' hl₂ ho hl₃ hx hm}
    {k : PUnit → Prog (TpuEff nD τ sig (Elt F) Λ₀ .tc) α} (f : FVec F S512x2048 .f32) :
    Know X W K ⊢ iprop(Sends c [] fly back -∗ Recvs c ((1, 6) :: l) r -∗ P1 X W c 0 2 -∗ oHeld c f
      -∗ (Sends c [] fly back -∗ Recvs c l ((1, 6) :: r) -∗ P1 X W c 0 2 -∗ oHeld c (put1 X W c z f) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (1, 6)) src ((rM1.slice (Rect.unit (s := S7x512x704) ![6, 0, 0] S1x512x704.size hr) hd).squeeze S512x704 hq) h1 h2) fun _ =>
            .op (.load pM1 (Rect.unit (s := S8x512x704) (k0_off7 c) S1x512x704.size hp).toLoadRect hl₁) fun a =>
            .op (.load rM1 (Rect.unit (s := S7x512x704) ![6, 0, 0] S1x512x704.size hr').toLoadRect hl₂) fun b =>
            .op (.load oM (Rect.unit (s := S512x2048) ![0, 640] S512x704.size ho).toLoadRect hl₃) fun _ =>
            .op (.store oM (Rect.unit (s := S512x2048) ![0, 640] S512x704.size ho) (k0_pay58 z a b) Finset.univ hx hm) k) Q) := by
  unfold Know put1
  iintro ⟨#HR, #Hlev⟩ HS HV HP HO Hk
  iapply (finish X W K c pM1 rM1 (1, 6) l r rfl (oo := ![0, 640]) (so := S512x704.size) (hr := inbR1 6) (hp' := inbP1 (xr c 0)) (dst := (rM1.slice (Rect.unit (s := S7x512x704) ![6, 0, 0] S1x512x704.size hr) hd).squeeze S512x704 hq) rfl
    (off7_eq c) (fun a b => k0_pay58 z a b) f (sum1 X W 2 c (xr c 0)) (sum1 X W 2 (peer (1, 6) c) (xr c 0)) (y1 X W c z) rfl rfl rfl) $$ [HS HV HP HO]
  · isplitr; · iexact HR
    isplitr; · iexact Hlev
    isplitl [HS]; · iexact HS
    isplitl [HV]; · iexact HV
    isplitl [HP] <;> iassumption
  iintro ⟨HS, HV, HP, HO⟩
  iapply Hk $$ HS HV HP HO

@[inherit_doc out0] theorem out2 {α : Type} {Q : α → sProp 𝕄} (z : F .f32) {fly back : List Msg} (l r : List Msg)
    {sp₁ : Space} {s₁ : Shape} {e₁ : EltTy} {src : Memref sig .tc sp₁ s₁ e₁} {hr} {hd : ∀ a, (Rect.unit (s := S7x512x704) ![6, 0, 0] S1x512x704.size hr).stride a = 1} {hq} {h1 : src.view.WordExact} {h2} {hp hl₁ hr' hl₂ ho hl₃ hx hm}
    {k : PUnit → Prog (TpuEff nD τ sig (Elt F) Λ₀ .tc) α} (f : FVec F S512x2048 .f32) :
    Know X W K ⊢ iprop(Sends c [] fly back -∗ Recvs c ((2, 6) :: l) r -∗ P2 X W c 0 2 -∗ oHeld c f
      -∗ (Sends c [] fly back -∗ Recvs c l ((2, 6) :: r) -∗ P2 X W c 0 2 -∗ oHeld c (put2 X W c z f) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (rQ (2, 6)) src ((rM2.slice (Rect.unit (s := S7x512x704) ![6, 0, 0] S1x512x704.size hr) hd).squeeze S512x704 hq) h1 h2) fun _ =>
            .op (.load pM2 (Rect.unit (s := S8x512x704) (k0_off7 c) S1x512x704.size hp).toLoadRect hl₁) fun a =>
            .op (.load rM2 (Rect.unit (s := S7x512x704) ![6, 0, 0] S1x512x704.size hr').toLoadRect hl₂) fun b =>
            .op (.load oM (Rect.unit (s := S512x2048) ![0, 1344] S512x704.size ho).toLoadRect hl₃) fun _ =>
            .op (.store oM (Rect.unit (s := S512x2048) ![0, 1344] S512x704.size ho) (k0_pay59 z a b) Finset.univ hx hm) k) Q) := by
  unfold Know put2
  iintro ⟨#HR, #Hlev⟩ HS HV HP HO Hk
  iapply (finish X W K c pM2 rM2 (2, 6) l r rfl (oo := ![0, 1344]) (so := S512x704.size) (hr := inbR1 6) (hp' := inbP1 (xr c 0)) (dst := (rM2.slice (Rect.unit (s := S7x512x704) ![6, 0, 0] S1x512x704.size hr) hd).squeeze S512x704 hq) rfl
    (off7_eq c) (fun a b => k0_pay59 z a b) f (sum2 X W 2 c (xr c 0)) (sum2 X W 2 (peer (2, 6) c) (xr c 0)) (y2 X W c z) rfl rfl rfl) $$ [HS HV HP HO]
  · isplitr; · iexact HR
    isplitr; · iexact Hlev
    isplitl [HS]; · iexact HS
    isplitl [HV]; · iexact HV
    isplitl [HP] <;> iassumption
  iintro ⟨HS, HV, HP, HO⟩
  iapply Hk $$ HS HV HP HO

/-- A source slab comes back. -/
theorem back0 {α : Type} {Q : α → sProp 𝕄} (s : Fin 7) (l r : List Msg)
    {sp₁ : Space} {s₁ : Shape} {e₁ : EltTy} {src : Memref sig .tc sp₁ s₁ e₁} {of : Fin 3 → ℕ} {hr} {hd : ∀ a, (Rect.unit (s := S8x512x640) of S1x512x640.size hr).stride a = 1} {hq} {h1 : src.view.WordExact} {h2}
    {k : PUnit → Prog (TpuEff nD τ sig (Elt F) Λ₀ .tc) α} :
    Know X W K ⊢ iprop(Sends c [] ((0, s) :: l) r -∗ (Sends c [] l ((0, s) :: r) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sQ (0, s)) src ((pM0.slice (Rect.unit (s := S8x512x640) of S1x512x640.size hr) hd).squeeze S512x640 hq) h1 h2) k) Q) := by
  unfold Know
  iintro ⟨#HR, #Hlev⟩ HS Hk
  iapply (send_wait X W K c (0, s) l r rfl (dst := (pM0.slice (Rect.unit (s := S8x512x640) of S1x512x640.size hr) hd).squeeze S512x640 hq) rfl) $$ [HS]
  · isplitr; · iexact HR
    isplitr; · iexact Hlev
    iexact HS
  iexact Hk

@[inherit_doc back0] theorem back1 {α : Type} {Q : α → sProp 𝕄} (s : Fin 7) (l r : List Msg)
    {sp₁ : Space} {s₁ : Shape} {e₁ : EltTy} {src : Memref sig .tc sp₁ s₁ e₁} {of : Fin 3 → ℕ} {hr} {hd : ∀ a, (Rect.unit (s := S8x512x704) of S1x512x704.size hr).stride a = 1} {hq} {h1 : src.view.WordExact} {h2}
    {k : PUnit → Prog (TpuEff nD τ sig (Elt F) Λ₀ .tc) α} :
    Know X W K ⊢ iprop(Sends c [] ((1, s) :: l) r -∗ (Sends c [] l ((1, s) :: r) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sQ (1, s)) src ((pM1.slice (Rect.unit (s := S8x512x704) of S1x512x704.size hr) hd).squeeze S512x704 hq) h1 h2) k) Q) := by
  unfold Know
  iintro ⟨#HR, #Hlev⟩ HS Hk
  iapply (send_wait X W K c (1, s) l r rfl (dst := (pM1.slice (Rect.unit (s := S8x512x704) of S1x512x704.size hr) hd).squeeze S512x704 hq) rfl) $$ [HS]
  · isplitr; · iexact HR
    isplitr; · iexact Hlev
    iexact HS
  iexact Hk

@[inherit_doc back0] theorem back2 {α : Type} {Q : α → sProp 𝕄} (s : Fin 7) (l r : List Msg)
    {sp₁ : Space} {s₁ : Shape} {e₁ : EltTy} {src : Memref sig .tc sp₁ s₁ e₁} {of : Fin 3 → ℕ} {hr} {hd : ∀ a, (Rect.unit (s := S8x512x704) of S1x512x704.size hr).stride a = 1} {hq} {h1 : src.view.WordExact} {h2}
    {k : PUnit → Prog (TpuEff nD τ sig (Elt F) Λ₀ .tc) α} :
    Know X W K ⊢ iprop(Sends c [] ((2, s) :: l) r -∗ (Sends c [] l ((2, s) :: r) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sQ (2, s)) src ((pM2.slice (Rect.unit (s := S8x512x704) of S1x512x704.size hr) hd).squeeze S512x704 hq) h1 h2) k) Q) := by
  unfold Know
  iintro ⟨#HR, #Hlev⟩ HS Hk
  iapply (send_wait X W K c (2, s) l r rfl (dst := (pM2.slice (Rect.unit (s := S8x512x704) of S1x512x704.size hr) hd).squeeze S512x704 hq) rfl) $$ [HS]
  · isplitr; · iexact HR
    isplitr; · iexact Hlev
    iexact HS
  iexact Hk

end

end Cert.Proof.Kern

end
-- ==== Proof.Body.lean ====
/-
  One device's run of the kernel's body, at a symbolic device: from its tokens, its buffers and its dues to the buffers
  back, everything paid, and the result's buffer written.
-/
module

public import proofs.«01_k».proof.Proof.Groups
public import proofs.«01_k».proof.Proof.Gen.KernelIdeal.Points
public import Idealize.ShloMosaic.Lib.Pipeline.TalkSched

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The messages in the order in which every device receives them. -/
def recvOrder : List Msg :=
  [(0, 0), (1, 0), (2, 0), (0, 1), (1, 1), (2, 1), (0, 2), (1, 2), (2, 2), (0, 4), (1, 4), (2, 4),
   (0, 3), (1, 3), (2, 3), (0, 5), (1, 5), (2, 5), (0, 6), (1, 6), (2, 6)]

theorem dev1_eq (c : Dev nD) : (⟨k0_dev1 c, k0_dev1_lt c⟩ : Dev nD) = xr c (mB 0) := by revert c; decide +kernel
theorem dev2_eq (c : Dev nD) : (⟨k0_dev2 c, k0_dev2_lt c⟩ : Dev nD) = xr c (mB 1) := by revert c; decide +kernel
theorem dev3_eq (c : Dev nD) : (⟨k0_dev3 c, k0_dev3_lt c⟩ : Dev nD) = xr c (mB 2) := by revert c; decide +kernel
theorem dev4_eq (c : Dev nD) : (⟨k0_dev4 c, k0_dev4_lt c⟩ : Dev nD) = peer (0, 0) c := by revert c; decide +kernel
theorem dev5_eq (c : Dev nD) : (⟨k0_dev5 c, k0_dev5_lt c⟩ : Dev nD) = peer (1, 0) c := by revert c; decide +kernel
theorem dev6_eq (c : Dev nD) : (⟨k0_dev6 c, k0_dev6_lt c⟩ : Dev nD) = peer (2, 0) c := by revert c; decide +kernel
theorem dev7_eq (c : Dev nD) : (⟨k0_dev7 c, k0_dev7_lt c⟩ : Dev nD) = peer (0, 1) c := by revert c; decide +kernel
theorem dev8_eq (c : Dev nD) : (⟨k0_dev8 c, k0_dev8_lt c⟩ : Dev nD) = peer (1, 1) c := by revert c; decide +kernel
theorem dev9_eq (c : Dev nD) : (⟨k0_dev9 c, k0_dev9_lt c⟩ : Dev nD) = peer (2, 1) c := by revert c; decide +kernel
theorem dev10_eq (c : Dev nD) : (⟨k0_dev10 c, k0_dev10_lt c⟩ : Dev nD) = peer (0, 2) c := by revert c; decide +kernel
theorem dev11_eq (c : Dev nD) : (⟨k0_dev11 c, k0_dev11_lt c⟩ : Dev nD) = peer (1, 2) c := by revert c; decide +kernel
theorem dev12_eq (c : Dev nD) : (⟨k0_dev12 c, k0_dev12_lt c⟩ : Dev nD) = peer (2, 2) c := by revert c; decide +kernel
theorem dev13_eq (c : Dev nD) : (⟨k0_dev13 c, k0_dev13_lt c⟩ : Dev nD) = peer (0, 3) c := by revert c; decide +kernel
theorem dev14_eq (c : Dev nD) : (⟨k0_dev14 c, k0_dev14_lt c⟩ : Dev nD) = peer (1, 3) c := by revert c; decide +kernel
theorem dev15_eq (c : Dev nD) : (⟨k0_dev15 c, k0_dev15_lt c⟩ : Dev nD) = peer (2, 3) c := by revert c; decide +kernel
theorem dev16_eq (c : Dev nD) : (⟨k0_dev16 c, k0_dev16_lt c⟩ : Dev nD) = peer (0, 4) c := by revert c; decide +kernel
theorem dev17_eq (c : Dev nD) : (⟨k0_dev17 c, k0_dev17_lt c⟩ : Dev nD) = peer (0, 5) c := by revert c; decide +kernel
theorem dev18_eq (c : Dev nD) : (⟨k0_dev18 c, k0_dev18_lt c⟩ : Dev nD) = peer (1, 4) c := by revert c; decide +kernel
theorem dev19_eq (c : Dev nD) : (⟨k0_dev19 c, k0_dev19_lt c⟩ : Dev nD) = peer (1, 5) c := by revert c; decide +kernel
theorem dev20_eq (c : Dev nD) : (⟨k0_dev20 c, k0_dev20_lt c⟩ : Dev nD) = peer (2, 4) c := by revert c; decide +kernel
theorem dev21_eq (c : Dev nD) : (⟨k0_dev21 c, k0_dev21_lt c⟩ : Dev nD) = peer (2, 5) c := by revert c; decide +kernel
theorem dev22_eq (c : Dev nD) : (⟨k0_dev22 c, k0_dev22_lt c⟩ : Dev nD) = peer (0, 6) c := by revert c; decide +kernel
theorem dev23_eq (c : Dev nD) : (⟨k0_dev23 c, k0_dev23_lt c⟩ : Dev nD) = peer (1, 6) c := by revert c; decide +kernel
theorem dev24_eq (c : Dev nD) : (⟨k0_dev24 c, k0_dev24_lt c⟩ : Dev nD) = peer (2, 6) c := by revert c; decide +kernel

section
variable (X : Dev nD → FVec F S4096x512 .fp8e5m2) (W : Dev nD → FVec F S512x2048 .fp8e5m2) (SX SW : Dev nD → FVec F S1 .f32)
variable (K : Dev nD × CI → ℕ) (c : Dev nD)

/-- The other staging buffers. -/
def wHeld : sProp 𝕄 := ((wM : Memref sig .tc .vmem S512x2048 .fp8e5m2).view.loc (c : Thread nD τ) ↦[Finset.univ]{fullShare} W c)
abbrev sxM : Memref sig .tc .smem S1 .f32 := Memref.whole cc0_stg2_0
abbrev swM : Memref sig .tc .smem S1 .f32 := Memref.whole cc0_stg3_0
abbrev rS : Rect S1 := Rect.unit (s := S1) ![0] S1.size inb_S1_S1_0
def sxHeld : sProp 𝕄 := ((sxM.access rS).loc (c : Thread nD τ) ↦[Finset.univ]{fullShare} SX c)
def swHeld : sProp 𝕄 := ((swM.access rS).loc (c : Thread nD τ) ↦[Finset.univ]{fullShare} SW c)

omit [FloatOps F] in
theorem hz2 : (![0, 0] : Fin 2 → Nat) = fun _ => 0 := funext fun a => by fin_cases a <;> rfl

/-- The weights are loaded whole. -/
theorem load_w {α : Type} {Q : α → sProp 𝕄} {h hl} {k : ((Rect.unit (s := S512x2048) ![0, 0] S512x2048.size h).shape.Idx → Elt F .fp8e5m2) → Prog (TpuEff nD τ sig (Elt F) Λ₀ .tc) α} :
    wHeld W c ⊢ iprop((wHeld W c -∗ wp frame (wpE (defs₀ (F := F)) 𝒱₀ (c : Thread nD τ) none) Set.univ (k (W c)) Q)
      -∗ wp frame (wpE (defs₀ (F := F)) 𝒱₀ (c : Thread nD τ) none) Set.univ
        (.op (.load wM (Rect.unit (s := S512x2048) ![0, 0] S512x2048.size h).toLoadRect hl) k) Q) := by
  unfold wHeld
  iintro H Hk
  iapply (wp_load 𝒱₀ (c : Thread nD τ) none Set.univ (m := wM) (Finset.subset_univ _)) $$ H
  iintro H
  rw [show (wM : Memref sig .tc .vmem S512x2048 .fp8e5m2).view.readAt (Elt F) (Rect.unit (s := S512x2048) ![0, 0] S512x2048.size h).toLoadRect (W c) = W c from Memref.readAt_unit_zero (Elt F) cc0_stg1_0 hz2 _ _]
  iapply Hk $$ H

/-- What the barrier takes. -/
def barKit : sProp 𝕄 :=
  iprop((dutyTok ER (barCell (xr c (mB 0))) 0 (0 : Fin 3) ∗ dutyTok ER (barCell (xr c (mB 1))) 0 (1 : Fin 3) ∗ dutyTok ER (barCell (xr c (mB 2))) 0 (2 : Fin 3))
    ∗ cred (tallyAt (barCell c) () 3) ∗ atPos ER (barCell c) 0 (∅ : Finset (Fin 3)) 0)

/-- A message's tokens at its sender. -/
def toks (x : Msg) : sProp 𝕄 :=
  iprop(dutyTok ER (sCell x c) 0 (0 : Fin 3) ∗ dutyTok ER (rCell x (peer x c)) 0 (0 : Fin 3) ∗ atPos ER (sCell x c) 0 (∅ : Finset (Fin 3)) 0)

/-- The eight row blocks of a group's partial sums, holding anything. -/
def slabs0 : sProp 𝕄 := bigSepL [0, 1, 2, 3, 4, 5, 6, 7] fun t : Fin 8 => SlabE (F := F) pM0 c (rP0 (xr c t))
@[inherit_doc slabs0] def slabs1 : sProp 𝕄 := bigSepL [0, 1, 2, 3, 4, 5, 6, 7] fun t : Fin 8 => SlabE (F := F) pM1 c (rP1 (xr c t))
@[inherit_doc slabs0] def slabs2 : sProp 𝕄 := bigSepL [0, 1, 2, 3, 4, 5, 6, 7] fun t : Fin 8 => SlabE (F := F) pM2 c (rP1 (xr c t))

omit [FloatOps F] in
theorem msgs_sep (Φ Ψ : Msg → sProp 𝕄) : bigSepL msgs (fun x => iprop(Φ x ∗ Ψ x)) = iprop(bigSepL msgs Φ ∗ bigSepL msgs Ψ) := by
  simp only [← bigSep_univ_eq_bigSepL msgs msgs_univ msgs_nodup]
  exact bigSep_sep' _ _ _

/-- The barrier: the device's landing slots go to their peers, its peers' come. -/
theorem barrier {α : Type} {Q : α → sProp 𝕄} (n0 n1 n2 : Dev nD) (h0 : n0 = xr c (mB 0)) (h1 : n1 = xr c (mB 1)) (h2 : n2 = xr c (mB 2))
    {k : PUnit → Prog (TpuEff nD τ sig (Elt F) Λ₀ .tc) α} :
    Know X W K ⊢ iprop(Owe c allDues -∗ barKit c -∗ bigSepL msgs (fun x => landE x c) -∗ bigSepL msgs (toks c)
      -∗ (Sends c msgs [] [] -∗ atPos ER (barCell c) 1 (∅ : Finset (Fin 3)) 0 -∗ wp frame (wpE (defs₀ (F := F)) 𝒱₀ (c : Thread nD τ) none) Set.univ (k ⟨⟩) Q)
      -∗ wp frame (wpE (defs₀ (F := F)) 𝒱₀ (c : Thread nD τ) none) Set.univ
          (.op (.semSignal (n0, .tc) barS (1#32 : BitVec 32).toInt.toNat) fun _ => .op (.semSignal (n1, .tc) barS (1#32 : BitVec 32).toInt.toNat) fun _ =>
            .op (.semSignal (n2, .tc) barS (1#32 : BitVec 32).toInt.toNat) fun _ => .op (.semWait barS (3#32 : BitVec 32).toInt.toNat) k) Q) := by
  unfold Know
  iintro ⟨#HR, #Hlev⟩ HO HB HL HT Hk
  ihave HL := (Entails.of_eq ((slots_eq (F := F) (fun x => landE x c)).symm.trans (bigSep_univ_eq_bigSepL [0, 1, 2] (by decide) (by decide) _))) $$ HL
  simp only [bigSepL_cons' (0 : Fin 3), bigSepL_cons' (1 : Fin 3), bigSepL_cons' (2 : Fin 3), bigSepL_nil (I := Fin 3)]
  unfold barKit
  icases HL with ⟨L0, L1, L2, -⟩
  icases HB with ⟨⟨T0, T1, T2⟩, Hc, Hat⟩
  iapply (bar_signal X W K c n0 0 h0 (by decide) ([.bar 1, .bar 2] ++ msgs.map .msg)) $$ [HO T0 L0]
  · isplitr; · iexact HR
    isplitl [HO]; · iexact HO
    isplitl [T0] <;> iassumption
  iintro HO
  iapply (bar_signal X W K c n1 1 h1 (by decide) ([.bar 2] ++ msgs.map .msg)) $$ [HO T1 L1]
  · isplitr; · iexact HR
    isplitl [HO]; · iexact HO
    isplitl [T1] <;> iassumption
  iintro HO
  iapply (bar_signal X W K c n2 2 h2 (by decide) (msgs.map .msg)) $$ [HO T2 L2]
  · isplitr; · iexact HR
    isplitl [HO]; · iexact HO
    isplitl [T2] <;> iassumption
  iintro HO
  iapply (bar_wait X W K c (by decide)) $$ [HO Hc Hat]
  · isplitr; · iexact HR
    isplitr; · iexact Hlev
    isplitl [HO]; · iexact HO
    isplitl [Hc] <;> iassumption
  iintro ⟨HO, Hat, HL⟩
  ihave HS := (Entails.of_eq (msgs_sep (fun x => landE (F := F) x (peer x c)) (toks c)).symm) $$ [HL HT]
  · isplitl [HL] <;> iassumption
  iapply Hk $$ [HO HS] Hat
  unfold Sends
  isplitl [HO]; · iexact HO
  isplitl [HS]; · iexact HS
  rw [bigSepL_nil, bigSepL_nil]
  isplitr <;> iempintro

/-- The scale: the product of the two given factors. -/
def scl : F .f32 := k0_pay55 ((sxM.access rS).read (Elt F) (SX c) (Shape.Idx.first (numel1_S1.symm ▸ Nat.one_pos))) ((swM.access rS).read (Elt F) (SW c) (Shape.Idx.first (numel1_S1.symm ▸ Nat.one_pos)))

/-- The result's buffer after the run, from what it held before. -/
def outF (f0 : FVec F S512x2048 .f32) : FVec F S512x2048 .f32 := put2 X W c (scl SX SW c) (put1 X W c (scl SX SW c) (put0 X W c (scl SX SW c) f0))

/-- What a device's run leaves. -/
def done (f0 : FVec F S512x2048 .f32) : sProp 𝕄 :=
  iprop(Sends c [] [] msgs.reverse ∗ Recvs c [] recvOrder.reverse ∗ atPos ER (barCell c) 1 (∅ : Finset (Fin 3)) 0
    ∗ SlabE pM0 c (rP0 (xr c 0)) ∗ SlabE pM1 c (rP1 (xr c 0)) ∗ SlabE pM2 c (rP1 (xr c 0))
    ∗ xHeld X c ∗ wHeld W c ∗ sxHeld SX c ∗ swHeld SW c ∗ oHeld c (outF X W SX SW c f0))

theorem sends_perm {l l' : List Msg} (h : l.Perm l') (hn : l.Nodup) : Sends (F := F) c [] l [] ⊢ Sends c [] l' [] := by
  unfold Sends
  rw [TalkSites.bigSepL_perm h hn]

/-- What follows the messages' starts, latest first. -/
theorem msgs_reverse : msgs.reverse = [(2, 6), (1, 6), (0, 6), (2, 5), (2, 4), (1, 5), (1, 4), (0, 5), (0, 4), (2, 3), (1, 3), (0, 3),
    (2, 2), (1, 2), (0, 2), (2, 1), (1, 1), (0, 1), (2, 0), (1, 0), (0, 0)] := by decide
theorem recvOrder_reverse : recvOrder.reverse = [(2, 6), (1, 6), (0, 6), (2, 5), (1, 5), (0, 5), (2, 3), (1, 3), (0, 3), (2, 4), (1, 4), (0, 4),
    (2, 2), (1, 2), (0, 2), (2, 1), (1, 1), (0, 1), (2, 0), (1, 0), (0, 0)] := by decide

set_option maxRecDepth 4000 in
theorem body_run {Q : PUnit → sProp 𝕄} (f0 : FVec F S512x2048 .f32) :
    Know X W K ⊢ iprop(Owe c allDues -∗ barKit c -∗ bigSepL msgs (fun x => landE x c) -∗ bigSepL msgs (toks c) -∗ Recvs c recvOrder []
      -∗ slabs0 c -∗ slabs1 c -∗ slabs2 c -∗ xHeld X c -∗ wHeld W c -∗ sxHeld SX c -∗ swHeld SW c -∗ oHeld c f0
      -∗ (done X W SX SW c f0 -∗ Q ⟨⟩)
      -∗ wp frame (wpE (defs₀ (F := F)) 𝒱₀ (c : Thread nD τ) none) Set.univ
        (cc0_body xM (Memref.isWhole_whole _) wM (Memref.isWhole_whole _) sxM (Memref.isWhole_whole _) swM (Memref.isWhole_whole _) oM (Memref.isWhole_whole _)
          pM0 (Memref.isWhole_whole _) pM1 (Memref.isWhole_whole _) pM2 (Memref.isWhole_whole _) rM0 (Memref.isWhole_whole _) rM1 (Memref.isWhole_whole _) rM2 (Memref.isWhole_whole _)
          cc0_scratch6 cc0_scratch7 cc0_scratch8 cc0_scratch9 cc0_scratch10 cc0_scratch11) Q) := by
  simp only [cc0_body_eq_skeleton]; unfold cc0_body_skel
  simp only [k0_part36_eq_skeleton]; unfold k0_part36_skel
  simp only [k0_part1_eq_skeleton]; unfold k0_part1_skel
  simp only [semSignalWord, semWaitWord, Prog.lift, Prog.bind_op, Prog.bind_ret, Prog.pure_eq_ret, wp_deviceId]
  iintro #HK HO HB HL HT HV HA HB' HC HX HW HSX HSW Hout Hk
  iapply (barrier X W K c _ _ _ (dev1_eq c) (dev2_eq c) (dev3_eq c)) $$ HK HO HB HL HT
  iintro HS Hbar
  iapply (load_w W c) $$ HW
  iintro HW
  unfold slabs0 slabs1 slabs2
  simp only [bigSepL_cons', bigSepL_nil]
  unfold msgs recvOrder
  icases HA with ⟨A0, A1, A2, A3, A4, A5, A6, A7, -⟩
  icases HB' with ⟨B0, B1, B2, B3, B4, B5, B6, B7, -⟩
  icases HC with ⟨C0, C1, C2, C3, C4, C5, C6, C7, -⟩
  iapply (chunk0 X W c 2) $$ HX A2; iintro HX A2
  simp only [k0_part2_eq_skeleton, k0_part2_skel, Prog.lift, Prog.bind_op, Prog.bind_ret, Prog.pure_eq_ret]
  iapply (send0 X W K c 0 2 0 rfl rfl _ (dev4_eq c) _ _ _) $$ HK HS A2; iintro HS
  iapply (chunk1 X W c 7) $$ HX B7; iintro HX B7
  simp only [k0_part3_eq_skeleton, k0_part3_skel, Prog.lift, Prog.bind_op, Prog.bind_ret, Prog.pure_eq_ret]
  iapply (send1 X W K c 0 7 0 rfl rfl _ (dev5_eq c) _ _ _) $$ HK HS B7; iintro HS
  iapply (chunk2 X W c 5) $$ HX C5; iintro HX C5
  iapply (send2 X W K c 0 5 0 rfl rfl _ (dev6_eq c) _ _ _) $$ HK HS C5; iintro HS
  simp only [k0_part4_eq_skeleton, k0_part4_skel, Prog.lift, Prog.bind_op, Prog.bind_ret, Prog.pure_eq_ret]
  iapply (chunk0 X W c 6) $$ HX A6; iintro HX A6
  iapply (send0 X W K c 1 6 0 rfl rfl _ (dev7_eq c) _ _ _) $$ HK HS A6; iintro HS
  iapply (chunk1 X W c 6) $$ HX B6; iintro HX B6
  simp only [k0_part5_eq_skeleton, k0_part5_skel, Prog.lift, Prog.bind_op, Prog.bind_ret, Prog.pure_eq_ret]
  iapply (send1 X W K c 1 6 0 rfl rfl _ (dev8_eq c) _ _ _) $$ HK HS B6; iintro HS
  iapply (chunk2 X W c 6) $$ HX C6; iintro HX C6
  simp only [k0_part6_eq_skeleton, k0_part6_skel, Prog.lift, Prog.bind_op, Prog.bind_ret, Prog.pure_eq_ret]
  iapply (send2 X W K c 1 6 0 rfl rfl _ (dev9_eq c) _ _ _) $$ HK HS C6; iintro HS
  iapply (chunk0 X W c 5) $$ HX A5; iintro HX A5
  iapply (send0 X W K c 2 5 0 rfl rfl _ (dev10_eq c) _ _ _) $$ HK HS A5; iintro HS
  simp only [k0_part7_eq_skeleton, k0_part7_skel, Prog.lift, Prog.bind_op, Prog.bind_ret, Prog.pure_eq_ret]
  iapply (chunk1 X W c 2) $$ HX B2; iintro HX B2
  iapply (send1 X W K c 2 2 0 rfl rfl _ (dev11_eq c) _ _ _) $$ HK HS B2; iintro HS
  iapply (chunk2 X W c 7) $$ HX C7; iintro HX C7
  simp only [k0_part8_eq_skeleton, k0_part8_skel, Prog.lift, Prog.bind_op, Prog.bind_ret, Prog.pure_eq_ret]
  iapply (send2 X W K c 2 7 0 rfl rfl _ (dev12_eq c) _ _ _) $$ HK HS C7; iintro HS
  iapply (chunk0 X W c 1) $$ HX A1; iintro HX A1
  iapply (send0 X W K c 3 1 0 rfl rfl _ (dev13_eq c) _ _ _) $$ HK HS A1; iintro HS
  simp only [k0_part9_eq_skeleton, k0_part9_skel, Prog.lift, Prog.bind_op, Prog.bind_ret, Prog.pure_eq_ret]
  iapply (chunk1 X W c 3) $$ HX B3; iintro HX B3
  iapply (send1 X W K c 3 3 0 rfl rfl _ (dev14_eq c) _ _ _) $$ HK HS B3; iintro HS
  simp only [k0_part10_eq_skeleton, k0_part10_skel, Prog.lift, Prog.bind_op, Prog.bind_ret, Prog.pure_eq_ret]
  iapply (chunk2 X W c 4) $$ HX C4; iintro HX C4
  iapply (send2 X W K c 3 4 0 rfl rfl _ (dev15_eq c) _ _ _) $$ HK HS C4; iintro HS
  iapply (chunk0 X W c 3) $$ HX A3; iintro HX A3
  simp only [k0_part11_eq_skeleton, k0_part11_skel, Prog.lift, Prog.bind_op, Prog.bind_ret, Prog.pure_eq_ret]
  iapply (chunk1 X W c 4) $$ HX B4; iintro HX B4
  iapply (chunk2 X W c 1) $$ HX C1; iintro HX C1
  iapply (chunk0 X W c 7) $$ HX A7; iintro HX A7
  simp only [k0_part12_eq_skeleton, k0_part12_skel, Prog.lift, Prog.bind_op, Prog.bind_ret, Prog.pure_eq_ret]
  iapply (chunk1 X W c 5) $$ HX B5; iintro HX B5
  iapply (chunk2 X W c 2) $$ HX C2; iintro HX C2
  iapply (chunk0 X W c 4) $$ HX A4; iintro HX A4
  simp only [k0_part13_eq_skeleton, k0_part13_skel, Prog.lift, Prog.bind_op, Prog.bind_ret, Prog.pure_eq_ret]
  iapply (chunk1 X W c 1) $$ HX B1; iintro HX B1
  iapply (chunk2 X W c 3) $$ HX C3; iintro HX C3
  iapply (chunk0 X W c 0) $$ HX A0; iintro HX A0
  simp only [k0_part14_eq_skeleton, k0_part14_skel, Prog.lift, Prog.bind_op, Prog.bind_ret, Prog.pure_eq_ret]
  iapply (chunk1 X W c 0) $$ HX B0; iintro HX B0
  iapply (chunk2 X W c 0) $$ HX C0; iintro HX C0
  simp only [k0_part15_eq_skeleton, k0_part15_skel, Prog.lift, Prog.bind_op, Prog.bind_ret, Prog.pure_eq_ret]
  iapply (add0 X W K c 0 3 0 1 rfl rfl rfl (by decide) _ _ (by decide)) $$ HK HS HV A3; iintro HS HV A3
  iapply (add1 X W K c 0 4 0 1 rfl rfl rfl (by decide) _ _ (by decide)) $$ HK HS HV B4; iintro HS HV B4
  simp only [k0_part16_eq_skeleton, k0_part16_skel, Prog.lift, Prog.bind_op, Prog.bind_ret, Prog.pure_eq_ret]
  iapply (add2 X W K c 0 1 0 1 rfl rfl rfl (by decide) _ _ (by decide)) $$ HK HS HV C1; iintro HS HV C1
  iapply (add0 X W K c 1 7 0 1 rfl rfl rfl (by decide) _ _ (by decide)) $$ HK HS HV A7; iintro HS HV A7
  simp only [k0_part17_eq_skeleton, k0_part17_skel, Prog.lift, Prog.bind_op, Prog.bind_ret, Prog.pure_eq_ret]
  iapply (send0 X W K c 4 7 1 rfl rfl _ (dev16_eq c) _ _ _) $$ HK HS A7; iintro HS
  iapply (send0 X W K c 5 3 1 rfl rfl _ (dev17_eq c) _ _ _) $$ HK HS A3; iintro HS
  simp only [k0_part18_eq_skeleton, k0_part18_skel, Prog.lift, Prog.bind_op, Prog.bind_ret, Prog.pure_eq_ret]
  iapply (add1 X W K c 1 5 0 1 rfl rfl rfl (by decide) _ _ (by decide)) $$ HK HS HV B5; iintro HS HV B5
  iapply (send1 X W K c 4 5 1 rfl rfl _ (dev18_eq c) _ _ _) $$ HK HS B5; iintro HS
  simp only [k0_part19_eq_skeleton, k0_part19_skel, Prog.lift, Prog.bind_op, Prog.bind_ret, Prog.pure_eq_ret]
  iapply (send1 X W K c 5 4 1 rfl rfl _ (dev19_eq c) _ _ _) $$ HK HS B4; iintro HS
  iapply (add2 X W K c 1 2 0 1 rfl rfl rfl (by decide) _ _ (by decide)) $$ HK HS HV C2; iintro HS HV C2
  simp only [k0_part20_eq_skeleton, k0_part20_skel, Prog.lift, Prog.bind_op, Prog.bind_ret, Prog.pure_eq_ret]
  iapply (send2 X W K c 4 2 1 rfl rfl _ (dev20_eq c) _ _ _) $$ HK HS C2; iintro HS
  iapply (send2 X W K c 5 1 1 rfl rfl _ (dev21_eq c) _ _ _) $$ HK HS C1; iintro HS
  simp only [k0_part21_eq_skeleton, k0_part21_skel, Prog.lift, Prog.bind_op, Prog.bind_ret, Prog.pure_eq_ret]
  iapply (add0 X W K c 2 4 0 1 rfl rfl rfl (by decide) _ _ (by decide)) $$ HK HS HV A4; iintro HS HV A4
  iapply (add1 X W K c 2 1 0 1 rfl rfl rfl (by decide) _ _ (by decide)) $$ HK HS HV B1; iintro HS HV B1
  simp only [k0_part22_eq_skeleton, k0_part22_skel, Prog.lift, Prog.bind_op, Prog.bind_ret, Prog.pure_eq_ret]
  iapply (add2 X W K c 2 3 0 1 rfl rfl rfl (by decide) _ _ (by decide)) $$ HK HS HV C3; iintro HS HV C3
  simp only [k0_part23_eq_skeleton, k0_part23_skel, Prog.lift, Prog.bind_op, Prog.bind_ret, Prog.pure_eq_ret]
  iapply (add0 X W K c 4 4 1 2 rfl rfl rfl (by decide) _ _ (by decide)) $$ HK HS HV A4; iintro HS HV A4
  iapply (send0 X W K c 6 4 2 rfl rfl _ (dev22_eq c) _ _ _) $$ HK HS A4; iintro HS
  simp only [k0_part24_eq_skeleton, k0_part24_skel, Prog.lift, Prog.bind_op, Prog.bind_ret, Prog.pure_eq_ret]
  iapply (add1 X W K c 4 1 1 2 rfl rfl rfl (by decide) _ _ (by decide)) $$ HK HS HV B1; iintro HS HV B1
  iapply (send1 X W K c 6 1 2 rfl rfl _ (dev23_eq c) _ _ _) $$ HK HS B1; iintro HS
  simp only [k0_part25_eq_skeleton, k0_part25_skel, Prog.lift, Prog.bind_op, Prog.bind_ret, Prog.pure_eq_ret]
  iapply (add2 X W K c 4 3 1 2 rfl rfl rfl (by decide) _ _ (by decide)) $$ HK HS HV C3; iintro HS HV C3
  iapply (send2 X W K c 6 3 2 rfl rfl _ (dev24_eq c) _ _ _) $$ HK HS C3; iintro HS
  simp only [k0_part26_eq_skeleton, k0_part26_skel, Prog.lift, Prog.bind_op, Prog.bind_ret, Prog.pure_eq_ret]
  iapply (add0 X W K c 3 0 0 1 rfl rfl rfl (by decide) _ _ (by decide)) $$ HK HS HV A0; iintro HS HV A0
  iapply (add1 X W K c 3 0 0 1 rfl rfl rfl (by decide) _ _ (by decide)) $$ HK HS HV B0; iintro HS HV B0
  simp only [k0_part27_eq_skeleton, k0_part27_skel, Prog.lift, Prog.bind_op, Prog.bind_ret, Prog.pure_eq_ret]
  iapply (add2 X W K c 3 0 0 1 rfl rfl rfl (by decide) _ _ (by decide)) $$ HK HS HV C0; iintro HS HV C0
  simp only [k0_part28_eq_skeleton, k0_part28_skel, Prog.lift, Prog.bind_op, Prog.bind_ret, Prog.pure_eq_ret]
  iapply (add0 X W K c 5 0 1 2 rfl rfl rfl (by decide) _ _ (by decide)) $$ HK HS HV A0; iintro HS HV A0
  iapply (add1 X W K c 5 0 1 2 rfl rfl rfl (by decide) _ _ (by decide)) $$ HK HS HV B0; iintro HS HV B0
  simp only [k0_part29_eq_skeleton, k0_part29_skel, Prog.lift, Prog.bind_op, Prog.bind_ret, Prog.pure_eq_ret]
  iapply (add2 X W K c 5 0 1 2 rfl rfl rfl (by decide) _ _ (by decide)) $$ HK HS HV C0; iintro HS HV C0
  simp only [smemLoad, smemLoadElt, Prog.bind_op, Prog.bind_ret]
  unfold sxHeld swHeld
  iapply (wp_load_rect 𝒱₀ (c : Thread nD τ) none Set.univ (m := sxM) (r := rS) (S := Finset.univ) (q := fullShare) (f := SX c) (Finset.subset_univ _)) $$ HSX; iintro HSX
  iapply (wp_load_rect 𝒱₀ (c : Thread nD τ) none Set.univ (m := swM) (r := rS) (S := Finset.univ) (q := fullShare) (f := SW c) (Finset.subset_univ _)) $$ HSW; iintro HSW
  simp only [k0_part30_eq_skeleton, k0_part30_skel, Prog.lift, Prog.bind_op, Prog.bind_ret, Prog.pure_eq_ret]
  iapply (out0 X W K c (scl SX SW c) _ _ f0) $$ HK HS HV A0 Hout; iintro HS HV A0 Hout
  iapply (out1 X W K c (scl SX SW c) _ _ _) $$ HK HS HV B0 Hout; iintro HS HV B0 Hout
  simp only [k0_part31_eq_skeleton, k0_part31_skel, Prog.lift, Prog.bind_op, Prog.bind_ret, Prog.pure_eq_ret]
  iapply (out2 X W K c (scl SX SW c) _ _ _) $$ HK HS HV C0 Hout; iintro HS HV C0 Hout
  ihave HS := (show Sends (F := F) c [] [(2, 6), (1, 6), (0, 6), (2, 5), (2, 4), (1, 5), (1, 4), (0, 5), (0, 4), (2, 3), (1, 3), (0, 3), (2, 2), (1, 2), (0, 2), (2, 1), (1, 1), (0, 1), (2, 0), (1, 0), (0, 0)] [] ⊢ Sends c [] msgs [] from msgs_reverse ▸ sends_perm c (List.reverse_perm msgs) (List.nodup_reverse.mpr msgs_nodup)) $$ HS
  unfold msgs
  iapply (back0 X W K c 0 _ _) $$ HK HS; iintro HS
  simp only [k0_part32_eq_skeleton, k0_part32_skel, Prog.lift, Prog.bind_op, Prog.bind_ret, Prog.pure_eq_ret]
  iapply (back1 X W K c 0 _ _) $$ HK HS; iintro HS
  iapply (back2 X W K c 0 _ _) $$ HK HS; iintro HS
  iapply (back0 X W K c 1 _ _) $$ HK HS; iintro HS
  iapply (back1 X W K c 1 _ _) $$ HK HS; iintro HS
  simp only [k0_part33_eq_skeleton, k0_part33_skel, Prog.lift, Prog.bind_op, Prog.bind_ret, Prog.pure_eq_ret]
  iapply (back2 X W K c 1 _ _) $$ HK HS; iintro HS
  iapply (back0 X W K c 2 _ _) $$ HK HS; iintro HS
  iapply (back1 X W K c 2 _ _) $$ HK HS; iintro HS
  iapply (back2 X W K c 2 _ _) $$ HK HS; iintro HS
  simp only [k0_part34_eq_skeleton, k0_part34_skel, Prog.lift, Prog.bind_op, Prog.bind_ret, Prog.pure_eq_ret]
  iapply (back0 X W K c 3 _ _) $$ HK HS; iintro HS
  iapply (back1 X W K c 3 _ _) $$ HK HS; iintro HS
  iapply (back2 X W K c 3 _ _) $$ HK HS; iintro HS
  iapply (back0 X W K c 4 _ _) $$ HK HS; iintro HS
  simp only [k0_part35_eq_skeleton, k0_part35_skel, Prog.lift, Prog.bind_op, Prog.bind_ret, Prog.pure_eq_ret]
  iapply (back0 X W K c 5 _ _) $$ HK HS; iintro HS
  iapply (back1 X W K c 4 _ _) $$ HK HS; iintro HS
  iapply (back1 X W K c 5 _ _) $$ HK HS; iintro HS
  iapply (back2 X W K c 4 _ _) $$ HK HS; iintro HS
  iapply (back2 X W K c 5 _ _) $$ HK HS; iintro HS
  iapply (back0 X W K c 6 _ _) $$ HK HS; iintro HS
  iapply (back1 X W K c 6 _ _) $$ HK HS; iintro HS
  iapply (back2 X W K c 6 _ _) $$ HK HS; iintro HS
  rw [wp_ret]; imodintro
  iapply Hk
  unfold done
  rw [msgs_reverse, recvOrder_reverse]
  isplitl [HS]; · iexact HS
  isplitl [HV]; · iexact HV
  isplitl [Hbar]; · iexact Hbar
  isplitl [A0]; · iapply (Slab_to_E pM0 c (rP0 (xr c 0)) _); iexact A0
  isplitl [B0]; · iapply (Slab_to_E pM1 c (rP1 (xr c 0)) _); iexact B0
  isplitl [C0]; · iapply (Slab_to_E pM2 c (rP1 (xr c 0)) _); iexact C0
  isplitl [HX]; · iexact HX
  isplitl [HW]; · iexact HW
  isplitl [HSX]; · unfold sxHeld; iexact HSX
  isplitl [HSW]; · unfold swHeld; iexact HSW
  unfold outF; iexact Hout

end

end Cert.Proof.Kern

end
-- ==== Proof.Scratch.lean ====
/-
  The scratch buffers, whole at the launch and at the end, held in between one row block (or landing slot) at a time.
-/
module

public import proofs.«01_k».proof.Proof.Body
public import Idealize.ShloMosaic.Lib.Ring

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A buffer held whole, at whatever contents. -/
def Any (b : Ref sig .tc) (c : Dev nD) : sProp 𝕄 := iprop(∃ f : Buf (Elt F) ((c : Thread nD τ).loc b), ((c : Thread nD τ).loc b) ↦{fullShare} f)

/-- Disjoint rectangles which cover a buffer are the buffer. -/
theorem any_eq (b : Ref sig .tc) {n : ℕ} (r : Fin n → Rect b.ty.shape) (hd : ∀ t t', t ≠ t' → Disjoint (r t).set (r t').set)
    (hc : (Finset.univ.biUnion fun t => (r t).set) = Finset.univ) (c : Dev nD) :
    Any (F := F) b c = bigSep Finset.univ fun t => SlabE (Memref.whole b) c (r t) := by
  have hs (t : Fin n) : (((Memref.whole b).access (r t)) : View sig .tc _ _ _).set = (r t).set := View.set_slice_whole b (r t)
  unfold Any SlabE
  simp only [hs]
  refine Entails.antisymm (show _ ⊢ (_ : sProp 𝕄) from ?_) (show _ ⊢ (_ : sProp 𝕄) from ?_)
  · iintro ⟨%f, H⟩
    ihave H' := (Entails.of_eq (Ring.pointsTo_blocks (fun t => (r t).set) hd hc f)) $$ H
    iapply (show (bigSep Finset.univ fun t : Fin n => (((c : Thread nD τ).loc b) ↦[(r t).set]{fullShare} f)) ⊢ (bigSep Finset.univ fun t : Fin n => iprop(∃ f : Buf (Elt F) ((c : Thread nD τ).loc b), ((c : Thread nD τ).loc b) ↦[(r t).set]{fullShare} f) : sProp 𝕄) from
      BI.bigSep_mono fun t _ => (show ((((c : Thread nD τ).loc b) ↦[(r t).set]{fullShare} f) : sProp 𝕄) ⊢ iprop(∃ f : Buf (Elt F) ((c : Thread nD τ).loc b), ((c : Thread nD τ).loc b) ↦[(r t).set]{fullShare} f) from by
        iintro H; iexists f; iexact H))
    iexact H'
  · exact Ring.pointsTo_blocks_join_exists (ℓ := (c : Thread nD τ).loc b) (fun t => (r t).set) hd hc (fun _ => Classical.choice (Elt.nonempty (F := F) _))

theorem any_p0 (c : Dev nD) : Any (F := F) cc0_scratch0 c = bigSep Finset.univ fun t : Fin 8 => SlabE pM0 c (rP0 t) :=
  any_eq cc0_scratch0 rP0
    (Ring.lead_disjoint (s := S8x512x640) 0 1 (fun t : Fin 8 => ![t.val, 0, 0]) S1x512x640.size inbP0 (by decide) rfl)
    (Ring.lead_cover (s := S8x512x640) 0 1 (fun t : Fin 8 => ![t.val, 0, 0]) S1x512x640.size inbP0 (by decide) (by decide) rfl (by decide) rfl) c
theorem any_p1 (c : Dev nD) : Any (F := F) cc0_scratch1 c = bigSep Finset.univ fun t : Fin 8 => SlabE pM1 c (rP1 t) :=
  any_eq cc0_scratch1 rP1
    (Ring.lead_disjoint (s := S8x512x704) 0 1 (fun t : Fin 8 => ![t.val, 0, 0]) S1x512x704.size inbP1 (by decide) rfl)
    (Ring.lead_cover (s := S8x512x704) 0 1 (fun t : Fin 8 => ![t.val, 0, 0]) S1x512x704.size inbP1 (by decide) (by decide) rfl (by decide) rfl) c
theorem any_p2 (c : Dev nD) : Any (F := F) cc0_scratch2 c = bigSep Finset.univ fun t : Fin 8 => SlabE pM2 c (rP1 t) :=
  any_eq cc0_scratch2 rP1
    (Ring.lead_disjoint (s := S8x512x704) 0 1 (fun t : Fin 8 => ![t.val, 0, 0]) S1x512x704.size inbP1 (by decide) rfl)
    (Ring.lead_cover (s := S8x512x704) 0 1 (fun t : Fin 8 => ![t.val, 0, 0]) S1x512x704.size inbP1 (by decide) (by decide) rfl (by decide) rfl) c
theorem any_r0 (c : Dev nD) : Any (F := F) cc0_scratch3 c = bigSep Finset.univ fun s : Fin 7 => landE (0, s) c :=
  any_eq cc0_scratch3 rR0
    (Ring.lead_disjoint (s := S7x512x640) 0 1 (fun t : Fin 7 => ![t.val, 0, 0]) S1x512x640.size inbR0 (by decide) rfl)
    (Ring.lead_cover (s := S7x512x640) 0 1 (fun t : Fin 7 => ![t.val, 0, 0]) S1x512x640.size inbR0 (by decide) (by decide) rfl (by decide) rfl) c
theorem any_r1 (c : Dev nD) : Any (F := F) cc0_scratch4 c = bigSep Finset.univ fun s : Fin 7 => landE (1, s) c :=
  any_eq cc0_scratch4 rR1
    (Ring.lead_disjoint (s := S7x512x704) 0 1 (fun t : Fin 7 => ![t.val, 0, 0]) S1x512x704.size inbR1 (by decide) rfl)
    (Ring.lead_cover (s := S7x512x704) 0 1 (fun t : Fin 7 => ![t.val, 0, 0]) S1x512x704.size inbR1 (by decide) (by decide) rfl (by decide) rfl) c
theorem any_r2 (c : Dev nD) : Any (F := F) cc0_scratch5 c = bigSep Finset.univ fun s : Fin 7 => landE (2, s) c :=
  any_eq cc0_scratch5 rR1
    (Ring.lead_disjoint (s := S7x512x704) 0 1 (fun t : Fin 7 => ![t.val, 0, 0]) S1x512x704.size inbR1 (by decide) rfl)
    (Ring.lead_cover (s := S7x512x704) 0 1 (fun t : Fin 7 => ![t.val, 0, 0]) S1x512x704.size inbR1 (by decide) (by decide) rfl (by decide) rfl) c

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- Over all messages, group by group. -/
theorem bigSepL_msgs (Φ : Msg → sProp 𝕄) : bigSepL msgs Φ
    = iprop((bigSep Finset.univ fun s : Fin 7 => Φ (0, s)) ∗ (bigSep Finset.univ fun s : Fin 7 => Φ (1, s)) ∗ bigSep Finset.univ fun s : Fin 7 => Φ (2, s)) := by
  rw [← bigSep_univ_eq_bigSepL msgs msgs_univ msgs_nodup Φ, bigSep_univ_prod, bigSep_fin3]

/-- The landing buffers are all messages' slots. -/
theorem any_r (c : Dev nD) : bigSepL msgs (fun x => landE (F := F) x c) = iprop(Any cc0_scratch3 c ∗ Any cc0_scratch4 c ∗ Any cc0_scratch5 c) := by
  rw [bigSepL_msgs, any_r0, any_r1, any_r2]

theorem xr_invol (c t : Dev nD) : xr c (xr c t) = t := by revert c t; decide
/-- Row blocks counted from the device's own. -/
def around (c : Dev nD) : Dev nD ≃ Dev nD := ⟨fun t => xr c t, fun t => xr c t, xr_invol c, xr_invol c⟩

theorem around_eq (c : Dev nD) (Φ : Fin 8 → sProp 𝕄) : bigSep Finset.univ Φ = bigSepL [0, 1, 2, 3, 4, 5, 6, 7] fun t : Fin 8 => Φ (xr c t) :=
  (bigSep_univ_equiv (around c) Φ).trans (bigSep_univ_eq_bigSepL [0, 1, 2, 3, 4, 5, 6, 7] (by decide) (by decide) _)

theorem any_slabs0 (c : Dev nD) : Any (F := F) cc0_scratch0 c = slabs0 c := (any_p0 c).trans (around_eq c _)
theorem any_slabs1 (c : Dev nD) : Any (F := F) cc0_scratch1 c = slabs1 c := (any_p1 c).trans (around_eq c _)
theorem any_slabs2 (c : Dev nD) : Any (F := F) cc0_scratch2 c = slabs2 c := (any_p2 c).trans (around_eq c _)

/-- The device's own row block and the seven its messages of a group carry are all eight. -/
theorem own_off (o : Fin 3) (c : Dev nD) (Φ : Fin 8 → sProp 𝕄) : bigSep Finset.univ Φ = iprop(Φ (xr c 0) ∗ bigSep Finset.univ fun s : Fin 7 => Φ (xr c (off (o, s)))) := by
  have h (Ψ : Fin 8 → sProp 𝕄) : bigSep Finset.univ Ψ = iprop(Ψ 0 ∗ bigSep Finset.univ fun s : Fin 7 => Ψ (off (o, s))) := by
    have hu : (Finset.univ : Finset (Fin 8)) = insert 0 (Finset.univ.map ⟨fun s : Fin 7 => off (o, s), by revert o; decide⟩) := by revert o; decide
    rw [hu, BI.bigSep_insert (by revert o; decide), BI.bigSep_map]; rfl
  exact (bigSep_univ_equiv (around c) Φ).trans (h _)

/-- The buffers of partial sums are the sources of all messages and the device's own row blocks. -/
theorem any_src (c : Dev nD) : iprop(bigSepL msgs (fun x => srcE (F := F) x c) ∗ SlabE pM0 c (rP0 (xr c 0)) ∗ SlabE pM1 c (rP1 (xr c 0)) ∗ SlabE pM2 c (rP1 (xr c 0)))
    ⊢ iprop(Any cc0_scratch0 c ∗ Any cc0_scratch1 c ∗ Any cc0_scratch2 c) := by
  rw [bigSepL_msgs, any_p0, any_p1, any_p2, own_off 0 c (fun t => SlabE pM0 c (rP0 t)), own_off 1 c (fun t => SlabE pM1 c (rP1 t)), own_off 2 c (fun t => SlabE pM2 c (rP1 t))]
  iintro ⟨⟨H0, H1, H2⟩, G0, G1, G2⟩
  isplitl [H0 G0]
  · isplitl [G0]; · iexact G0
    iexact H0
  isplitl [H1 G1]
  · isplitl [G1]; · iexact G1
    iexact H1
  isplitl [G2]; · iexact G2
  iexact H2

end Cert.Proof.Kern

end
-- ==== Proof.Ghost.lean ====
/-
  The ghost state of the launch: cells and tokens minted device by device, invariants allocated, tokens dealt to the
  devices which pay, and each device's credits.
-/
module

public import proofs.«01_k».proof.Proof.Scratch

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens, listed -/

section Lists
omit [FloatOps F]

theorem bigSep_bm (Φ : Bool × Msg → sProp 𝕄) : bigSep Finset.univ Φ = iprop(bigSepL msgs (fun x => Φ (false, x)) ∗ bigSepL msgs (fun x => Φ (true, x))) := by
  rw [← bigSep_univ_eq_bigSepL msgs msgs_univ msgs_nodup (fun x => Φ (false, x)), ← bigSep_univ_eq_bigSepL msgs msgs_univ msgs_nodup (fun x => Φ (true, x)),
    bigSep_univ_prod, bigSep_univ_eq_bigSepL [false, true] (by decide) (by decide)]
  rfl

theorem bigSep_CI (Φ : CI → sProp 𝕄) :
    bigSep Finset.univ Φ = iprop(Φ none ∗ bigSepL msgs (fun x => Φ (some (false, x))) ∗ bigSepL msgs (fun x => Φ (some (true, x)))) := by
  have hu : (Finset.univ : Finset CI) = insert none (Finset.univ.map Function.Embedding.some) := by decide +kernel
  rw [hu, BI.bigSep_insert (by simp), BI.bigSep_map]
  exact congrArg (fun P => iprop(Φ none ∗ P)) (bigSep_bm fun p => Φ (some p))

/-- The kernel's own semaphores: the messages'. -/
def osem (p : Bool × Msg) : SemLoc sig := ksem (some p)

theorem ownSems0_eq (c : Dev nD) : (Pipeline.ownSems0 (Ix := Unit) (Name := ℕ) (U := UU) (Lvl := ℕ) (Val := Elt F) (τ := τ) osem c : sProp 𝕄)
    = iprop(bigSepL msgs (fun x => semVal (sCell x c) 0) ∗ bigSepL msgs (fun x => semVal (rCell x c) 0)) := by
  unfold Pipeline.ownSems0
  exact bigSep_bm fun p => semVal ((c : Thread nD τ), osem p) 0

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

theorem ksem_injective : Function.Injective ksem := by
  intro a b h
  rcases a with _ | ⟨_ | _, x⟩ <;> rcases b with _ | ⟨_ | _, y⟩ <;> dsimp only [ksem] at h <;> try cases h
  all_goals try rfl
  all_goals
    have h' := SemLoc.dma.inj h
    first
    | (have e := congrArg isSend h'; simp only [isSend_sQ, isSend_rQ] at e; cases e; done)
    | (have e := congrArg msgOf h'; simp only [msgOf_sQ, msgOf_rQ] at e; rw [e])

theorem kcell_injective : Function.Injective kcell := by
  rintro ⟨c, k⟩ ⟨c', k'⟩ h
  have h1 : c = c' := by have := congrArg (fun g : GSem nD τ sig => g.1.1) h; exact this
  have h2 : ksem k = ksem k' := congrArg Prod.snd h
  rw [h1, ksem_injective h2]

/-- All cells; all tokens, each at its own cell: the barrier's three, one per message on either side. -/
def allCells : Finset (GSem nD τ sig) := Finset.univ.map ⟨kcell, kcell_injective⟩
abbrev TI : Type := Fin 3 ⊕ (Bool × Msg)
def tokOf (p : Dev nD × TI) : GSem nD τ sig × ℕ × Fin 3 := match p.2 with
  | .inl i => (kcell (p.1, none), 0, i)
  | .inr k => (kcell (p.1, some k), 0, 0)
theorem tokOf_injective : Function.Injective tokOf := by
  rintro ⟨c, j⟩ ⟨c', j'⟩ h
  rcases j with i | k <;> rcases j' with i' | k'
  · have h1 := kcell_injective (congrArg Prod.fst h)
    have h2 : i = i' := congrArg (fun t : GSem nD τ sig × ℕ × Fin 3 => t.2.2) h
    have hc : c = c' := congrArg (fun t : Dev nD × CI => t.1) h1
    rw [hc, h2]
  · have h1 := kcell_injective (congrArg Prod.fst h)
    exact absurd (Prod.mk.inj h1).2 (by simp)
  · have h1 := kcell_injective (congrArg Prod.fst h)
    exact absurd (Prod.mk.inj h1).2 (by simp)
  · have h1 := kcell_injective (congrArg Prod.fst h)
    have hc : c = c' := congrArg (fun t : Dev nD × CI => t.1) h1
    have hk : k = k' := Option.some.inj (congrArg (fun t : Dev nD × CI => t.2) h1)
    rw [hc, hk]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells. -/
def ownToks (c : Dev nD) : sProp 𝕄 :=
  iprop((dutyTok ER (barCell c) 0 (0 : Fin 3) ∗ dutyTok ER (barCell c) 0 (1 : Fin 3) ∗ dutyTok ER (barCell c) 0 (2 : Fin 3))
    ∗ bigSepL msgs (fun x => dutyTok ER (sCell x c) 0 (0 : Fin 3)) ∗ bigSepL msgs (fun x => dutyTok ER (rCell x c) 0 (0 : Fin 3)))
/-- The tokens a device pays with. -/
def payToks (c : Dev nD) : sProp 𝕄 :=
  iprop((dutyTok ER (barCell (xr c (mB 0))) 0 (0 : Fin 3) ∗ dutyTok ER (barCell (xr c (mB 1))) 0 (1 : Fin 3) ∗ dutyTok ER (barCell (xr c (mB 2))) 0 (2 : Fin 3))
    ∗ bigSepL msgs (fun x => dutyTok ER (sCell x c) 0 (0 : Fin 3)) ∗ bigSepL msgs (fun x => dutyTok ER (rCell x (peer x c)) 0 (0 : Fin 3)))

theorem ownToks_eq (c : Dev nD) : (bigSep Finset.univ fun j : TI => (dutyTok ER (tokOf (c, j)).1 (tokOf (c, j)).2.1 (tokOf (c, j)).2.2 : sProp 𝕄)) = ownToks c := by
  rw [bigSep_univ_sum, bigSep_fin3, bigSep_bm]; rfl

theorem bigSep_swap {I : Type} (l : List I) (Φ : Dev nD → I → sProp 𝕄) :
    (bigSep Finset.univ fun c : Dev nD => bigSepL l (Φ c)) = bigSepL l fun x => bigSep Finset.univ fun c : Dev nD => Φ c x := by
  induction l with
  | nil => simp only [bigSepL_nil]; exact BI.bigSep_emp_const _
  | cons x l ih => simp only [bigSepL_cons']; rw [bigSep_sep', ih]

/-- Every token is dealt to the device across its mask. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep', bigSep_sep', bigSep_sep',
    bigSep_univ_equiv (flip (mB 0)) (fun c : Dev nD => (dutyTok ER (barCell c) 0 (0 : Fin 3) : sProp 𝕄)),
    bigSep_univ_equiv (flip (mB 1)) (fun c : Dev nD => (dutyTok ER (barCell c) 0 (1 : Fin 3) : sProp 𝕄)),
    bigSep_univ_equiv (flip (mB 2)) (fun c : Dev nD => (dutyTok ER (barCell c) 0 (2 : Fin 3) : sProp 𝕄)),
    bigSep_swap msgs (fun c x => (dutyTok ER (rCell x c) 0 (0 : Fin 3) : sProp 𝕄)),
    bigSep_swap msgs (fun c x => (dutyTok ER (rCell x (peer x c)) 0 (0 : Fin 3) : sProp 𝕄))]
  have h : (fun x : Msg => bigSep Finset.univ fun c : Dev nD => (dutyTok ER (rCell x c) 0 (0 : Fin 3) : sProp 𝕄))
      = fun x : Msg => bigSep Finset.univ fun c : Dev nD => (dutyTok ER (rCell x (peer x c)) 0 (0 : Fin 3) : sProp 𝕄) :=
    funext fun x => bigSep_univ_equiv (flip (mask x)) (fun c : Dev nD => (dutyTok ER (rCell x c) 0 (0 : Fin 3) : sProp 𝕄))
  rw [h]; rfl

end Lists

section Ghost
variable (X : Dev nD → FVec F S4096x512 .fp8e5m2) (W : Dev nD → FVec F S512x2048 .fp8e5m2)

/-- What the launch deals a device; -/
def G (c : Dev nD) : sProp 𝕄 :=
  iprop((bigSep Finset.univ fun k : CI => roundState ER (Rd X W) (kcell (c, k)) 0)
    ∗ (bigSep Finset.univ fun k : CI => iprop(atPos ER (kcell (c, k)) 0 (∅ : Finset (Fin 3)) 0 ∗ reached ER (kcell (c, k)) 0)) ∗ ownToks c)
/-- what stays with it alone; -/
def linear (c : Dev nD) : sProp 𝕄 := iprop((bigSep Finset.univ fun k : CI => atPos ER (kcell (c, k)) 0 (∅ : Finset (Fin 3)) 0) ∗ payToks c)
/-- what it has once every cell's invariant stands. -/
def G' (c : Dev nD) : sProp 𝕄 := iprop(∃ K, records X W K ∗ linear c)

theorem fund_cells : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : CI => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => ownToks c := by
    unfold allToks; rw [BI.bigSep_map, bigSep_univ_prod]
    exact bigSep_congr fun c _ => ownToks_eq c
  iintro HX
  imod (Rounds.fund ER (Rd X W) allCells allToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : CI => iprop(∃ κ : ℕ, cellInv ER (Rd X W) κ (kcell (c, k))))
          ∗ (bigSep Finset.univ fun k : CI => iprop(atPos ER (kcell (c, k)) 0 (∅ : Finset (Fin 3)) 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd X W) (kcell (c, k)) 0)
      ⊢ (|={Set.univ}=> bigSep Finset.univ fun k : CI => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What is known of everyone goes to everyone. -/
theorem share_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd X W) κ (kcell (c, k))))
          ∗ (bigSep Finset.univ fun k : CI => iprop(atPos ER (kcell (c, k)) 0 (∅ : Finset (Fin 3)) 0 ∗ reached ER (kcell (c, k)) 0)) ∗ ownToks c) : sProp 𝕄)
      ⊢ bigSep Finset.univ (G' X W) := by
  rw [bigSep_sep', bigSep_sep', ← bigSep_univ_prod (fun p : Dev nD × CI => iprop(∃ κ : ℕ, cellInv ER (Rd X W) κ (kcell p))),
    bigSep_congr (s := Finset.univ) (fun (c : Dev nD) _ => bigSep_sep' Finset.univ (fun k : CI => (atPos ER (kcell (c, k)) 0 (∅ : Finset (Fin 3)) 0 : sProp 𝕄)) (fun k => reached ER (kcell (c, k)) 0)),
    bigSep_sep', ← bigSep_univ_prod (fun p : Dev nD × CI => (reached ER (kcell p) 0 : sProp 𝕄)), toks_around]
  iintro ⟨HI, ⟨Hat, #HR⟩, Htok⟩
  ihave HK := (BI.bigSep_exists_pi Finset.univ (fun (p : Dev nD × CI) (κ : ℕ) => (cellInv ER (Rd X W) κ (kcell p) : sProp 𝕄))) $$ HI
  icases HK with ⟨%K, #HI⟩
  iapply (share_known (R := records X W K) (Φ := linear) fun c _ => (show iprop(records X W K ∗ linear c) ⊢ G' X W c from by
    unfold G'; iintro H; iexists K; iexact H))
  isplitr
  · unfold records; isplitl; · iexact HI
    iexact HR
  · unfold linear
    rw [bigSep_sep']
    isplitl [Hat]; · iexact Hat
    iexact Htok

/-- All devices' semaphores at once become invariants, and the tokens go round. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end Ghost

/-! ## Credits -/

section Credits
omit [FloatOps F]

/-- The cell of its own on which a device waits for the payment its peer makes it. -/
def Due.own : Due → Dev nD → GSem nD τ sig
  | .bar _, c => barCell c
  | .msg x, c => rCell x c

theorem creds_list (c : Dev nD) (l : List Due) :
    (Pipeline.launchCred (fun d => dues d l) c : sProp 𝕄) ⊢ bigSepL l fun u => cred (tallyAt (u.own c) () u.amt) := by
  induction l with
  | nil =>
    rw [bigSepL_nil]
    exact Entails.of_eq (Pipeline.launchCred_zero c)
  | cons u l ih =>
    rw [bigSepL_cons', show (fun d => dues d (u :: l)) = fun d => dues d l + tallyAt (u.cell d) () u.amt from rfl, Pipeline.launchCred_add]
    have hu : (Pipeline.launchCred (fun d => tallyAt (u.cell d) () u.amt) c : sProp 𝕄) ⊢ cred (tallyAt (u.own c) () u.amt) := by
      cases u with
      | bar i => exact Pipeline.launchCred_tallyAt (.reg barS) (fun d => xr d (mB i)) (fun d => xr d (mB i)) (fun d => xr_xr d _) (fun d => xr_xr d _) () 1 c
      | msg x => exact Pipeline.launchCred_tallyAt (.dma (rQ x)) (peer x) (peer x) (peer_peer x) (peer_peer x) () (NN x.1) c
    iintro ⟨HL, HU⟩
    isplitl [HU]
    · iapply hu; iexact HU
    · iapply ih; iexact HL

theorem creds (c : Dev nD) :
    (Pipeline.launchCred (fun d => dues d allDues) c : sProp 𝕄)
      ⊢ iprop(cred (tallyAt (barCell c) () 3) ∗ bigSepL msgs fun x => cred (tallyAt (rCell x c) () (NN x.1))) := by
  refine (creds_list c allDues).trans ?_
  unfold allDues
  rw [bigSepL_append, bigSepL_map]
  simp only [bigSepL_cons', bigSepL_nil]
  iintro ⟨⟨H1, H2, H3, -⟩, HM⟩
  isplitl [H1 H2 H3]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H1]; · iexact H1
    iapply (cred_add _ _).2
    isplitl [H2]; · iexact H2
    iexact H3
  · iexact HM

end Credits

end Cert.Proof.Kern

end
-- ==== Proof.Out.lean ====
/-
  The result's buffer after the run, element by element: the three groups' columns cover it, so nothing of what it held
  before is left.
-/
module

public import proofs.«01_k».proof.Proof.Body

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An index of a rectangle of the result's buffer, placed in the buffer. -/
abbrev col (r : Rect S512x2048) (j : r.shape.Idx) : S512x2048.Idx := ((oM : Memref sig .tc .vmem S512x2048 .f32).access r).emb j

omit [FloatOps F] in
theorem put_in (r : Rect S512x2048) (f : FVec F S512x2048 .f32) (y : FVec F r.shape .f32) (j : r.shape.Idx) :
    ((oM : Memref sig .tc .vmem S512x2048 .f32).access r).write (Elt F) f y Finset.univ (col r j) = y j :=
  (View.write_emb_of_mem (v := (oM : Memref sig .tc .vmem S512x2048 .f32).access r) (Val := Elt F) f y (Finset.mem_univ j)).trans rfl

omit [FloatOps F] in
theorem put_out (r : Rect S512x2048) (f : FVec F S512x2048 .f32) (y : FVec F r.shape .f32) (i : S512x2048.Idx) (h : i ∉ r.set) :
    ((oM : Memref sig .tc .vmem S512x2048 .f32).access r).write (Elt F) f y Finset.univ i = f i :=
  View.write_of_not_mem (v := (oM : Memref sig .tc .vmem S512x2048 .f32).access r) (Val := Elt F) f y Finset.univ (by
    rw [View.setOn_univ]; exact fun h' => h ((View.set_slice_whole cc0_stg4_0 r).le h'))

theorem col_mem (r : Rect S512x2048) (j : r.shape.Idx) : col r j ∈ r.set := by
  rw [← Rect.map_emb_univ]; exact Finset.mem_map.mpr ⟨j, Finset.mem_univ _, rfl⟩

theorem mem_col (r : Rect S512x2048) (i : S512x2048.Idx) (h : i ∈ r.set) : ∃ j, col r j = i := by
  rw [← Rect.map_emb_univ] at h
  obtain ⟨j, -, e⟩ := Finset.mem_map.mp h
  exact ⟨j, e⟩

theorem mem_rO0 (i : S512x2048.Idx) : Iff (i ∈ rO0.set) ((i 1).val < 640) := by
  rw [Rect.mem_set_unit]
  have h0 : (i 0).val < 512 := (i 0).isLt
  exact ⟨fun h => by have := (h 1).2; simpa using this, fun h a => by fin_cases a <;> simp <;> assumption⟩
theorem mem_rO1 (i : S512x2048.Idx) : Iff (i ∈ rO1.set) (640 ≤ (i 1).val ∧ (i 1).val < 1344) := by
  rw [Rect.mem_set_unit]
  have h0 : (i 0).val < 512 := (i 0).isLt
  exact ⟨fun h => by have := h 1; simpa using this, fun h a => by fin_cases a <;> simp <;> assumption⟩
theorem mem_rO2 (i : S512x2048.Idx) : Iff (i ∈ rO2.set) (1344 ≤ (i 1).val) := by
  rw [Rect.mem_set_unit]
  have h0 : (i 0).val < 512 := (i 0).isLt
  have h1 : (i 1).val < 2048 := (i 1).isLt
  exact ⟨fun h => by have := (h 1).1; simpa using this, fun h a => by fin_cases a <;> simp <;> first | assumption | exact ⟨h, h1⟩⟩

/-- The three groups' columns cover the buffer. -/
theorem cols_cover (i : S512x2048.Idx) : (∃ j, col rO0 j = i) ∨ (∃ j, col rO1 j = i) ∨ ∃ j, col rO2 j = i := by
  by_cases h : (i 1).val < 640
  · exact Or.inl (mem_col rO0 i ((mem_rO0 i).mpr h))
  by_cases h' : (i 1).val < 1344
  · exact Or.inr (Or.inl (mem_col rO1 i ((mem_rO1 i).mpr ⟨by omega, h'⟩)))
  · exact Or.inr (Or.inr (mem_col rO2 i ((mem_rO2 i).mpr (by omega))))

section
variable (X : Dev nD → FVec F S4096x512 .fp8e5m2) (W : Dev nD → FVec F S512x2048 .fp8e5m2) (SX SW : Dev nD → FVec F S1 .f32) (c : Dev nD)

theorem outF_col0 (f0 : FVec F S512x2048 .f32) (j : S512x640.Idx) : outF X W SX SW c f0 (col rO0 j) = y0 X W c (scl SX SW c) j := by
  have h := (mem_rO0 _).mp (col_mem rO0 j)
  unfold outF put2 put1 put0
  rw [put_out rO2 _ _ _ (fun h' => by have := (mem_rO2 _).mp h'; omega), put_out rO1 _ _ _ (fun h' => by have := ((mem_rO1 _).mp h').1; omega)]
  exact put_in rO0 _ _ j
theorem outF_col1 (f0 : FVec F S512x2048 .f32) (j : S512x704.Idx) : outF X W SX SW c f0 (col rO1 j) = y1 X W c (scl SX SW c) j := by
  have h := (mem_rO1 _).mp (col_mem rO1 j)
  unfold outF put2 put1
  rw [put_out rO2 _ _ _ (fun h' => by have := (mem_rO2 _).mp h'; omega)]
  exact put_in rO1 _ _ j
theorem outF_col2 (f0 : FVec F S512x2048 .f32) (j : S512x704.Idx) : outF X W SX SW c f0 (col rO2 j) = y2 X W c (scl SX SW c) j := by
  unfold outF put2
  exact put_in rO2 _ _ j

/-- What the buffer held before does not matter. -/
theorem outF_eq (f0 f1 : FVec F S512x2048 .f32) : outF X W SX SW c f0 = outF X W SX SW c f1 := by
  funext i
  rcases cols_cover i with ⟨j, rfl⟩ | ⟨j, rfl⟩ | ⟨j, rfl⟩
  · exact (outF_col0 X W SX SW c f0 j).trans (outF_col0 X W SX SW c f1 j).symm
  · exact (outF_col1 X W SX SW c f0 j).trans (outF_col1 X W SX SW c f1 j).symm
  · exact (outF_col2 X W SX SW c f0 j).trans (outF_col2 X W SX SW c f1 j).symm

end

end Cert.Proof.Kern

end
-- ==== Proof.Launch.lean ====
/-
  The run of the whole program, over any float values: from any memory whose counters are zero, every device ends with the
  result's array at `outAt`, its four arguments unchanged, and every counter at zero.
-/
module

public import proofs.«01_k».proof.Proof.Ghost
public import proofs.«01_k».proof.Proof.Out
public import proofs.«01_k».proof.Proof.Gen.KernelIdeal.Frame
public import Idealize.ShloMosaic.Lib.Pipeline.CollectiveSegs

@[expose] public section

noncomputable section

namespace Cert.Proof.Kern

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the staging buffers hold -/

/-- The four arguments as staged on each device. -/
def stX (c : Dev nD) : FVec F S4096x512 .fp8e5m2 := iblk m c 0 t0_0
@[inherit_doc stX] def stW (c : Dev nD) : FVec F S512x2048 .fp8e5m2 := iblk m c 1 t0_0
@[inherit_doc stX] def stSX (c : Dev nD) : FVec F S1 .f32 := iblk m c 2 t0_0
@[inherit_doc stX] def stSW (c : Dev nD) : FVec F S1 .f32 := iblk m c 3 t0_0

/-- The kernel's result on device `c`. -/
def outAt (c : Dev nD) : FVec F S512x2048 .f32 := outF (stX m) (stW m) (stSX m) (stSW m) c (m ((c : Thread nD τ).loc cc0_stg4_0))

/-! ## The pipeline's proof data -/

/-- A device's scratch buffers, whole. -/
def scratch (c : Dev nD) : sProp 𝕄 :=
  iprop(Any cc0_scratch0 c ∗ Any cc0_scratch1 c ∗ Any cc0_scratch2 c ∗ Any cc0_scratch3 c ∗ Any cc0_scratch4 c ∗ Any cc0_scratch5 c)

/-- What a device's body starts from: its ghost state, its credits, the levels. -/
def start (c : Dev nD) : sProp 𝕄 :=
  iprop(G' (stX m) (stW m) c ∗ (cred (tallyAt (barCell c) () 3) ∗ bigSepL msgs fun x => cred (tallyAt (rCell x c) () (NN x.1))) ∗ levAts L lv)

def Φ₀ (c : Dev nD) : sProp 𝕄 := iprop(start m c ∗ scratch c)
def Φ₁ (c : Dev nD) : sProp 𝕄 := iprop(scratch (F := F) c ∗ Pipeline.ownSems0 osem c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stX m c
    | ⟨1, _⟩ => stW m c
    | ⟨2, _⟩ => stSX m c
    | ⟨3, _⟩ => stSW m c
    | ⟨4, _⟩ => outAt m c
  Φ t := match t with
    | ⟨0, _⟩ => Φ₀ m c
    | ⟨_ + 1, _⟩ => Φ₁ c
  q _ := fullShare
  owed t := match t with
    | ⟨0, _⟩ => dues c allDues
    | ⟨_ + 1, _⟩ => 0

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The cells closed -/

theorem close_cells (X : Dev nD → FVec F S4096x512 .fp8e5m2) (W : Dev nD → FVec F S512x2048 .fp8e5m2) (K : Dev nD × CI → ℕ) (c : Dev nD) (b : Bool) (l : List Msg) :
    records X W K ⊢ iprop(bigSepL l (fun x => atPos ER (kcell (c, some (b, x))) 1 (∅ : Finset (Fin 3)) 0)
      -∗ |={Set.univ}=> bigSepL l fun x => semVal (kcell (c, some (b, x))) 0) := by
  induction l with
  | nil =>
    rw [bigSepL_nil, bigSepL_nil]
    iintro - H
    imodintro
    iexact H
  | cons x l ih =>
    rw [bigSepL_cons', bigSepL_cons']
    iintro #HR ⟨Hx, Hl⟩
    ihave #HI := (inv_at X W K (c, some (b, x))) $$ HR
    imod (Rounds.cell_close ER (Rd X W) (Set.mem_univ (K (c, some (b, x)))) (fun h => h) (R := 0 + 1) (duties_later X W _)) $$ [Hx] with Hz
    · isplitr; · iexact HI
      iexact Hx
    imod ih $$ HR Hl with Hl
    imodintro
    isplitl [Hz]; · iexact Hz
    iexact Hl

theorem close_bar (X : Dev nD → FVec F S4096x512 .fp8e5m2) (W : Dev nD → FVec F S512x2048 .fp8e5m2) (K : Dev nD × CI → ℕ) (c : Dev nD) :
    records X W K ⊢ iprop(atPos ER (barCell c) 1 (∅ : Finset (Fin 3)) 0 -∗ |={Set.univ}=> semVal (barCell c) 0) := by
  iintro #HR Hx
  ihave #HI := (inv_at X W K (c, none)) $$ HR
  imod (Rounds.cell_close ER (Rd X W) (Set.mem_univ (K (c, none))) (fun h => h) (R := 0 + 1) (duties_later X W _)) $$ [Hx] with Hz
  · isplitr; · iexact HI
    iexact Hx
  imodintro
  iexact Hz

/-! ## The body -/

section Body
variable (X : Dev nD → FVec F S4096x512 .fp8e5m2) (W : Dev nD → FVec F S512x2048 .fp8e5m2) (SX SW : Dev nD → FVec F S1 .f32)

/-- Everything a device's run leaves, closed up. -/
theorem done_close (K : Dev nD × CI → ℕ) (c : Dev nD) (f0 : FVec F S512x2048 .f32) :
    records X W K ⊢ iprop(done X W SX SW c f0 -∗ |={Set.univ}=> (Φ₁ c ∗ Owe c [] ∗ xHeld X c ∗ wHeld W c ∗ sxHeld SX c ∗ swHeld SW c ∗ oHeld c (outF X W SX SW c f0))) := by
  unfold done Sends Recvs
  rw [TalkSites.bigSepL_perm (l := msgs.reverse) (l' := msgs) (List.reverse_perm _) (by decide) (sent c),
    TalkSites.bigSepL_perm (l := recvOrder.reverse) (l' := msgs) (by decide) (by decide) (rcvd c)]
  unfold sent rcvd
  rw [msgs_sep (fun x => srcE x c) (fun x => atPos ER (sCell x c) 1 (∅ : Finset (Fin 3)) 0),
    msgs_sep (fun x => landE x c) (fun x => atPos ER (rCell x c) 1 (∅ : Finset (Fin 3)) 0), any_r]
  iintro #HR ⟨⟨HO, -, -, HS, HaS⟩, ⟨-, ⟨HR3, HR4, HR5⟩, HaR⟩, HaB, P0, P1, P2, HX, HW, HSX, HSW, HOut⟩
  imod (show records X W K ⊢ iprop(bigSepL msgs (fun x => atPos ER (sCell x c) 1 (∅ : Finset (Fin 3)) 0)
    -∗ |={Set.univ}=> bigSepL msgs fun x => semVal (sCell x c) 0) from close_cells X W K c false msgs) $$ HR HaS with HzS
  imod (show records X W K ⊢ iprop(bigSepL msgs (fun x => atPos ER (rCell x c) 1 (∅ : Finset (Fin 3)) 0)
    -∗ |={Set.univ}=> bigSepL msgs fun x => semVal (rCell x c) 0) from close_cells X W K c true msgs) $$ HR HaR with HzR
  imod (close_bar X W K c) $$ HR HaB with HzB
  ihave HP := (any_src (F := F) c) $$ [HS P0 P1 P2]
  · isplitl [HS]; · iexact HS
    isplitl [P0]; · iexact P0
    isplitl [P1]; · iexact P1
    iexact P2
  icases HP with ⟨P0, P1, P2⟩
  imodintro
  isplitl [HzS HzR HzB P0 P1 P2 HR3 HR4 HR5]
  · unfold Φ₁ scratch
    rw [ownSems0_eq]
    isplitl [P0 P1 P2 HR3 HR4 HR5]
    · isplitl [P0]; · iexact P0
      isplitl [P1]; · iexact P1
      isplitl [P2]; · iexact P2
      isplitl [HR3]; · iexact HR3
      isplitl [HR4]; · iexact HR4
      iexact HR5
    isplitl [HzS HzR]
    · isplitl [HzS]; · iexact HzS
      iexact HzR
    iexact HzB
  isplitl [HO]; · iexact HO
  isplitl [HX]; · iexact HX
  isplitl [HW]; · iexact HW
  isplitl [HSX]; · iexact HSX
  isplitl [HSW]; · iexact HSW
  iexact HOut

set_option maxRecDepth 4000 in
/-- The body from what the launch gives. -/
theorem body_sound (K : Dev nD × CI → ℕ) (c : Dev nD) (f0 : FVec F S512x2048 .f32) {Q : PUnit → sProp 𝕄} :
    records X W K ⊢ iprop(linear c -∗ cred (tallyAt (barCell c) () 3) -∗ bigSepL msgs (fun x => cred (tallyAt (rCell x c) () (NN x.1))) -∗ levAts L lv
      -∗ scratch c -∗ Owe c allDues -∗ xHeld X c -∗ wHeld W c -∗ sxHeld SX c -∗ swHeld SW c -∗ oHeld c f0
      -∗ ((Φ₁ c ∗ Owe c [] ∗ xHeld X c ∗ wHeld W c ∗ sxHeld SX c ∗ swHeld SW c ∗ oHeld c (outF X W SX SW c f0)) -∗ Q ⟨⟩)
      -∗ wp frame (wpE (defs₀ (F := F)) 𝒱₀ (c : Thread nD τ) none) Set.univ
        (cc0_body xM (Memref.isWhole_whole _) wM (Memref.isWhole_whole _) sxM (Memref.isWhole_whole _) swM (Memref.isWhole_whole _) oM (Memref.isWhole_whole _)
          pM0 (Memref.isWhole_whole _) pM1 (Memref.isWhole_whole _) pM2 (Memref.isWhole_whole _) rM0 (Memref.isWhole_whole _) rM1 (Memref.isWhole_whole _) rM2 (Memref.isWhole_whole _)
          cc0_scratch6 cc0_scratch7 cc0_scratch8 cc0_scratch9 cc0_scratch10 cc0_scratch11) Q) := by
  unfold linear payToks scratch
  rw [bigSep_CI, any_slabs0, any_slabs1, any_slabs2]
  iintro #HR ⟨⟨HaB, HaS, HaV⟩, HtB, HtS, HtV⟩ HcB HcV #Hlev ⟨A0, A1, A2, R0, R1, R2⟩ HO HX HW HSX HSW Hout Hk
  iapply wp_fupd
  iapply (body_run X W SX SW K c f0) $$ [] HO [HtB HcB HaB] [R0 R1 R2] [HtS HtV HaS] [HcV HaV] A0 A1 A2 HX HW HSX HSW Hout
  · unfold Know; isplitr; · iexact HR
    iexact Hlev
  · unfold barKit
    isplitl [HtB]; · iexact HtB
    isplitl [HcB]; · iexact HcB
    iexact HaB
  · rw [any_r]
    isplitl [R0]; · iexact R0
    isplitl [R1]; · iexact R1
    iexact R2
  · unfold toks
    rw [msgs_sep (fun x => dutyTok ER (sCell x c) 0 (0 : Fin 3)), msgs_sep (fun x => dutyTok ER (rCell x (peer x c)) 0 (0 : Fin 3))]
    isplitl [HtS]; · iexact HtS
    isplitl [HtV]; · iexact HtV
    iexact HaS
  · unfold Recvs
    rw [TalkSites.bigSepL_perm (l := recvOrder) (l' := msgs) (by decide) (by decide) (recvKit (F := F) c), bigSepL_nil]
    unfold recvKit
    rw [msgs_sep (fun x => cred (tallyAt (rCell x c) () (NN x.1)))]
    isplitl [HcV HaV]
    · isplitl [HcV]; · iexact HcV
      iexact HaV
    iempintro
  iintro Hd
  imod (done_close X W SX SW K c f0) $$ HR Hd with H
  imodintro
  iapply Hk; iexact H

end Body

set_option maxRecDepth 4000 in
def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
def bodyPost (c : Dev nD) : sProp 𝕄 :=
  iprop(Φ₁ c ∗ (dats m ρ 0 c).owesAt () (t0_0 : Fin cfg0.N).succ ∗ stg c cc0_stg0_0 (stX m c) ∗ stg c cc0_stg1_0 (stW m c)
    ∗ stg c cc0_stg2_0 (stSX m c) ∗ stg c cc0_stg3_0 (stSW m c) ∗ stg c cc0_stg4_0 (outAt m c))

theorem before_0 (c : Dev nD) (d) : (dats m ρ 0 c).before (0 : Fin 5) t0_0 d = stX m c := by unfold Dat.before; rw [if_pos (fetch0_0 t0_0)]; rfl
theorem before_1 (c : Dev nD) (d) : (dats m ρ 0 c).before (1 : Fin 5) t0_0 d = stW m c := by unfold Dat.before; rw [if_pos (fetch0_1 t0_0)]; rfl
theorem before_2 (c : Dev nD) (d) : (dats m ρ 0 c).before (2 : Fin 5) t0_0 d = stSX m c := by unfold Dat.before; rw [if_pos (fetch0_2 t0_0)]; rfl
theorem before_3 (c : Dev nD) (d) : (dats m ρ 0 c).before (3 : Fin 5) t0_0 d = stSW m c := by unfold Dat.before; rw [if_pos (fetch0_3 t0_0)]; rfl

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 32000 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_eq]
  show bodyPre m ρ c ⊢ wp frame (wpE (defs₀ (F := F)) 𝒱₀ (c : Thread nD τ) none) Set.univ
        (cc0_body xM (Memref.isWhole_whole _) wM (Memref.isWhole_whole _) sxM (Memref.isWhole_whole _) swM (Memref.isWhole_whole _) oM (Memref.isWhole_whole _)
          pM0 (Memref.isWhole_whole _) pM1 (Memref.isWhole_whole _) pM2 (Memref.isWhole_whole _) rM0 (Memref.isWhole_whole _) rM1 (Memref.isWhole_whole _) rM2 (Memref.isWhole_whole _)
          cc0_scratch6 cc0_scratch7 cc0_scratch8 cc0_scratch9 cc0_scratch10 cc0_scratch11) (fun _ => bodyPost m ρ c)
  unfold bodyPre Φ₀ start G'
  simp only [before_0, before_1, before_2, before_3]
  iintro ⟨⟨⟨⟨%K, #HR, Hlin⟩, ⟨HcB, HcV⟩, #Hlev⟩, Hscr⟩, Ho, ⟨%d0, %f0, %e0, HX⟩, ⟨%d1, %f1, %e1, HW⟩, ⟨%d2, %f2, %e2, HSX⟩, ⟨%d3, %f3, %e3, HSW⟩, ⟨%d4, %f4, %e4, Hout⟩⟩
  subst e0; subst e1; subst e2; subst e3
  unfold Dat.owesAt Pipeline.owesWithin
  icases Ho with ⟨%Wt, %hWt, HO⟩
  iapply (body_sound (stX m) (stW m) (stSX m) (stSW m) K c f4) $$ HR Hlin HcB HcV Hlev Hscr [HO] [HX] [HW] [HSX] [HSW] [Hout]
  · unfold Owe; iexists Wt; iexact HO
  · unfold xHeld; iexact HX
  · unfold wHeld; iexact HW
  · unfold sxHeld; iexact HSX
  · unfold swHeld; iexact HSW
  · unfold oHeld; iexact Hout
  unfold Owe xHeld wHeld sxHeld swHeld oHeld
  iintro ⟨HΦ, ⟨%Wt', HO⟩, HX, HW, HSX, HSW, Hout⟩
  unfold bodyPost Dat.owesAt Pipeline.owesWithin
  isplitl [HΦ]; · iexact HΦ
  isplitl [HO]
  · iexists Wt'
    isplitr; · ipureintro; exact fun _ _ => Or.inl trivial
    iexact HO
  isplitl [HX]
  · iexists (stX m c); isplitr; · (ipureintro; rfl)
    iexact HX
  isplitl [HW]
  · iexists (stW m c); isplitr; · (ipureintro; rfl)
    iexact HW
  isplitl [HSX]
  · iexists (stSX m c); isplitr; · (ipureintro; rfl)
    iexact HSX
  isplitl [HSW]
  · iexists (stSW m c); isplitr; · (ipureintro; rfl)
    iexact HSW
  iexists (outAt m c); isplitr; · (ipureintro; rfl)
  unfold outAt
  rw [outF_eq (stX m) (stW m) (stSX m) (stSW m) c (m ((c : Thread nD τ).loc cc0_stg4_0)) f4]
  iexact Hout

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => dues d allDues) c ∗ prngReg c (ρ c) ∗ G' (stX m) (stW m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scratch_eq (c : Dev nD) : (Pipeline.scopedRest (Ix := Unit) (Name := ℕ) (U := UU) (Lvl := ℕ) (Val := Elt F) spec0 c : sProp 𝕄) = scratch c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = scratch (F := F) c from scratch_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq, show Pipeline.scopedRest cfg0.spec c = scratch (F := F) c from scratch_eq c]
  unfold Φ₁
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_dues c _ 0 (by fin_cases w <;> fin_cases s <;> rfl) allDues (by decide)
    · show _ ⊢ MayWait _ _ () 0
      rw [MayWait_zero]; iintro -; iempintro

/-! ## The run -/

/-- An array of a window after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => dues d allDues) (howed₀ := fun _ => rfl) (howedN := fun _ => rfl)
    (L := L) (lv := lv) (hL := L_of_ne) (hwaits := waits m ρ)
    (G := G (stX m) (stW m)) (G' := G' (stX m) (stW m)) (u₀ := u₀)
    (hu₀ := by
      unfold u₀
      iintro Hu
      ihave H := (ownU_pair _ _) $$ Hu
      icases H with ⟨HP, HX⟩
      imod (fund_cells (stX m) (stW m)) $$ HX with HG
      imodintro
      isplitl [HP] <;> iassumption)
    (hglob := glob (stX m) (stW m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run, at the five arrays: the result, the arguments unchanged, every counter at zero. -/
theorem run_values : θ_run defs (onTc (τ := τ) (main (F := F))) ⟨m, fun _ => 0, ρ⟩ fun r =>
    (∀ c : Dev nD, r.2.mem ((c.tc : Thread nD τ).loc main_v1) = finalA m ρ c (4 : Fin 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run defs _ _).mono (fun _ h => ⟨fun c => ⟨h.1 c (4 : Fin 5),
    (h.1 c (0 : Fin 5)).trans ((dats (F := F) m ρ 0 c).arrAt_in (0 : Fin 5) rfl _),
    (h.1 c (1 : Fin 5)).trans ((dats (F := F) m ρ 0 c).arrAt_in (1 : Fin 5) rfl _),
    (h.1 c (2 : Fin 5)).trans ((dats (F := F) m ρ 0 c).arrAt_in (2 : Fin 5) rfl _),
    (h.1 c (3 : Fin 5)).trans ((dats (F := F) m ρ 0 c).arrAt_in (3 : Fin 5) rfl _)⟩, h.2⟩) (run_main m ρ)

end Cert.Proof.Kern

end
-- ==== Proof.Arrays.lean ====
/-
  The kernel's arrays around its body, over any float values: each argument is staged whole and the result is written back
  whole. So the run's result on each device is the body's result of the arguments themselves.
-/
module

public import proofs.«01_k».proof.Proof.Launch
public import Idealize.ShloMosaic.Lib.Pipeline.Value

@[expose] public section

noncomputable section

namespace Cert.Proof.Kern

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## Every window is its whole array -/

theorem at0 (t : Fin cfg0.N) (j : S4096x512.Idx) : ((cfg0.win 0).blk t).view.emb j = j :=
  funext fun a => Fin.ext (win0_0.rect_emb_val_of_index_zero t a rfl j)
theorem at1 (t : Fin cfg0.N) (j : S512x2048.Idx) : ((cfg0.win 1).blk t).view.emb j = j :=
  funext fun a => Fin.ext (win0_1.rect_emb_val_of_index_zero t a rfl j)
theorem at2 (t : Fin cfg0.N) (j : S1.Idx) : ((cfg0.win 2).blk t).view.emb j = j :=
  funext fun a => Fin.ext (win0_2.rect_emb_val_of_index_zero t a rfl j)
theorem at3 (t : Fin cfg0.N) (j : S1.Idx) : ((cfg0.win 3).blk t).view.emb j = j :=
  funext fun a => Fin.ext (win0_3.rect_emb_val_of_index_zero t a rfl j)
theorem at4 (t : Fin cfg0.N) (j : S512x2048.Idx) : ((cfg0.win 4).blk t).view.emb j = j :=
  funext fun a => Fin.ext (win0_4.rect_emb_val_of_index_zero t a rfl j)

theorem stX_eq (c : Dev nD) : stX m c = m ((c : Thread nD τ).loc main_arg0) := by
  funext j; show m ((c : Thread nD τ).loc main_arg0) (((cfg0.win 0).blk t0_0).view.emb j) = _; rw [at0]
theorem stW_eq (c : Dev nD) : stW m c = m ((c : Thread nD τ).loc main_arg1) := by
  funext j; show m ((c : Thread nD τ).loc main_arg1) (((cfg0.win 1).blk t0_0).view.emb j) = _; rw [at1]
theorem stSX_eq (c : Dev nD) : stSX m c = m ((c : Thread nD τ).loc main_arg2) := by
  funext j; show m ((c : Thread nD τ).loc main_arg2) (((cfg0.win 2).blk t0_0).view.emb j) = _; rw [at2]
theorem stSW_eq (c : Dev nD) : stSW m c = m ((c : Thread nD τ).loc main_arg3) := by
  funext j; show m ((c : Thread nD τ).loc main_arg3) (((cfg0.win 3).blk t0_0).view.emb j) = _; rw [at3]

/-- What is written back is the whole result. -/
theorem flushed_out (c : Dev nD) (t : Fin cfg0.N) :
    (dats m ρ 0 c).flushed 4 t = ((cfg0.win 4).blk t).view.read (Elt F) (outAt m c) := by
  funext j
  show outAt m c j = outAt m c (((cfg0.win 4).blk t).view.emb j)
  rw [at4]

theorem cover_out (i : S512x2048.Idx) : ∃ t : Fin cfg0.N, (cfg0.win 4).flush t = true ∧ i ∈ ((cfg0.win 4).blk t).view.set :=
  ⟨t0_0, flush0_4 _, by have h := ((cfg0.win 4).blk t0_0).view.emb_mem_set i; rwa [at4] at h⟩

/-- The result's array after the run. -/
theorem final_out (c : Dev nD) : finalA m ρ c (4 : Fin 5) = outAt m c :=
  (dats m ρ 0 c).arrAt_eq_of_cover 4 (outAt m c) (fun t _ => flushed_out m ρ c t) cover_out

/-- The run: every device's result is the body's result of the devices' arguments. -/
theorem run_out : θ_run defs (onTc (τ := τ) (main (F := F))) ⟨m, fun _ => 0, ρ⟩ fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1.trans (final_out m ρ c), (h.1 c).2⟩) (run_values m ρ)

end Cert.Proof.Kern

end
-- ==== Proof.Ref.lean ====
/-
  The reference's run: its result is one function of its arguments, and over the reals each element of it is the scaled
  product's positive part.
-/
module

public import proofs.«01_k».proof.Proof.Gen.ReferenceIdeal.Value
public import Idealize.ShloMosaic.Lib.MatmulPlain
public import Idealize.ShloMosaic.Lib.ValueIdx

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.ValueIdx

section Run
variable {F : FTy → Type} [FloatOps F]

/-- The one place of a scale. -/
def one : S1.Idx := ix1 0

/-- The reference's result of its four arguments. -/
def refOut (x : FVec F S4096x4096 .fp8e5m2) (w : FVec F S4096x2048 .fp8e5m2) (sx sw : FVec F S1 .f32) : FVec F S4096x2048 .f32 :=
  k0_pay1 x w (sx one) (sw one)

theorem zeros2 : (![0, 0] : Fin 2 → Nat) = fun _ => 0 := funext fun a => by fin_cases a <;> rfl

theorem one_eq (j : S1.Idx) : j = one := by
  funext a; apply Fin.ext
  match a with
  | ⟨0, _⟩ => have h : (j 0).val < 1 := (j 0).isLt; show (j 0).val = 0; omega

/-- What the body leaves in the result's staging buffer. -/
theorem body_out (c : Dev nD) (a0 : Memref sig .tc .vmem S4096x4096 .fp8e5m2) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x : FVec F S4096x4096 .fp8e5m2) (w : FVec F S4096x2048 .fp8e5m2) (sx sw : FVec F S1 .f32) :
    out0_A_4 c a0 h0 a1 h1 a2 h2 a3 h3 a4 h4 x w sx sw = refOut x w sx sw := by
  unfold out0_A_4
  rw [View.read_writes_junk_eq_canon]
  show View.canon ([⟨Rect.unit ![0, 0] S4096x2048.size inb_S4096x2048_S4096x2048_0_0,
      k0_pay1 (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero zeros2, View.readAt_eq_ld, View.readAt_eq_ld, View.readAt_eq_ld, View.readAt_eq_ld,
    h0.read_unread, h1.read_unread, h2.read_unread, h3.read_unread, View.ld_unit_zero zeros2, View.ld_unit_zero zeros2]
  exact congrArg₂ (k0_pay1 x w) (congrArg sx (one_eq _)) (congrArg sw (one_eq _))

variable (m : (ℓ : Loc nD τ sig) → Buf (Elt F) ℓ) (ρ : Dev nD → PrngReg)

/-! ### Every window is its whole array -/

theorem at0 (t : Fin cfg0.N) (j : S4096x4096.Idx) : ((cfg0.win 0).blk t).view.emb j = j :=
  funext fun a => Fin.ext (win0_0.rect_emb_val_of_index_zero t a rfl j)
theorem at1 (t : Fin cfg0.N) (j : S4096x2048.Idx) : ((cfg0.win 1).blk t).view.emb j = j :=
  funext fun a => Fin.ext (win0_1.rect_emb_val_of_index_zero t a rfl j)
theorem at2 (t : Fin cfg0.N) (j : S1.Idx) : ((cfg0.win 2).blk t).view.emb j = j :=
  funext fun a => Fin.ext (win0_2.rect_emb_val_of_index_zero t a rfl j)
theorem at3 (t : Fin cfg0.N) (j : S1.Idx) : ((cfg0.win 3).blk t).view.emb j = j :=
  funext fun a => Fin.ext (win0_3.rect_emb_val_of_index_zero t a rfl j)
theorem at4 (t : Fin cfg0.N) (j : S4096x2048.Idx) : ((cfg0.win 4).blk t).view.emb j = j :=
  funext fun a => Fin.ext (win0_4.rect_emb_val_of_index_zero t a rfl j)

theorem st0 (c : Dev nD) (t : Fin cfg0.N) : iblk m c 0 t = V m c main_arg0 := by
  funext j; show V m c main_arg0 (((cfg0.win 0).blk t).view.emb j) = _; rw [at0]
theorem st1 (c : Dev nD) (t : Fin cfg0.N) : iblk m c 1 t = V m c main_arg1 := by
  funext j; show V m c main_arg1 (((cfg0.win 1).blk t).view.emb j) = _; rw [at1]
theorem st2 (c : Dev nD) (t : Fin cfg0.N) : iblk m c 2 t = V m c main_arg2 := by
  funext j; show V m c main_arg2 (((cfg0.win 2).blk t).view.emb j) = _; rw [at2]
theorem st3 (c : Dev nD) (t : Fin cfg0.N) : iblk m c 3 t = V m c main_arg3 := by
  funext j; show V m c main_arg3 (((cfg0.win 3).blk t).view.emb j) = _; rw [at3]

/-- The reference's result of the launch memory. -/
abbrev refAt (c : Dev nD) : FVec F S4096x2048 .f32 :=
  refOut (m ((c : Thread nD τ).loc main_arg0)) (m ((c : Thread nD τ).loc main_arg1)) (m ((c : Thread nD τ).loc main_arg2)) (m ((c : Thread nD τ).loc main_arg3))

theorem flushed_out (c : Dev nD) (t : Fin cfg0.N) :
    (dats m 0 c).flushed 4 t = ((cfg0.win 4).blk t).view.read (Elt F) (refAt m c) := by
  rw [flushed4_A, body_out, st0, st1, st2, st3, V_main_arg0, V_main_arg1, V_main_arg2, V_main_arg3]
  funext j
  show refAt m c j = refAt m c (((cfg0.win 4).blk t).view.emb j)
  rw [at4]

theorem cover_out (i : S4096x2048.Idx) : ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [at4] at h⟩

/-- The reference's run. -/
theorem run_out : θ_run defs (onTc (τ := τ) (main (F := F))) ⟨m, fun _ => 0, ρ⟩ fun r => ∀ c : Dev nD,
      r.2.mem ((c : Thread nD τ).loc main_v0) = refAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
    ((dats m 0 c).arrAt_eq_of_cover 4 (refAt m c) (fun t _ => flushed_out m c t) cover_out), (h c).2⟩) (run_blocks m ρ)

end Run

/-! ## Over the reals -/

theorem dims_eq : dot_S4096x4096_S4096x2048_S4096x2048_1_0_0_1_n_n = DotDims.plain 4096 4096 2048 := rfl

/-- Element `(r, n)` of the reference's result. -/
theorem refOut_apply (x : FVec Ideal S4096x4096 .fp8e5m2) (w : FVec Ideal S4096x2048 .fp8e5m2) (sx sw : FVec Ideal S1 .f32) (r : Fin 4096) (n : Fin 2048) :
    refOut x w sx sw (ix2 r n) = max ((∑ k : Fin 4096, (x (ix2 r k) : EReal) * w (ix2 k n)) * (sx one * sw one : EReal)) (Ideal.ofBits .f32 0x00000000#32) := by
  have h : FloatOps.matmul (F := Ideal) (DotDims.plain 4096 4096 2048) none (extf .f32 x bitsLt_fp8e5m2_f32) (extf .f32 w bitsLt_fp8e5m2_f32)
      (constant S4096x2048 .f32 0x00000000#32) (ix2 r n) = ∑ k : Fin 4096, (x (ix2 r k) : EReal) * w (ix2 k n) := by
    rw [Ideal.matmul_plain_apply]
    show Ideal.ofBits .f32 0x00000000#32 + _ = _
    rw [Ideal.ofBits_zero_f32, zero_add]
    rfl
  rw [← h]
  rfl

end Cert.Proof.Ref

end
-- ==== Proof.Value.lean ====
/-
  The kernel's result over the reals. A device's partial sums are products of its block of the contraction; the exchanges
  add them up over all eight devices, whose blocks make up the whole contraction; so a device's result is its block of rows
  of the reference's.
-/
module

public import proofs.«01_k».proof.Proof.Arrays
public import proofs.«01_k».proof.Proof.Ref
public import Idealize.ShloMosaic.Lib.Layout
public import Idealize.ShloMosaic.Lib.Pipeline.ValueKit.Acc

@[expose] public section

noncomputable section

namespace Cert.Proof.Kern

open Cert.KernelIdeal Cert.KernelIdeal.Gen
open Cert.ReferenceIdeal (S4096x4096 S4096x2048)
open Idealize.ShloMosaic
open Idealize.ShloMosaic.TcCoe
open Idealize.ShloMosaic.ValueIdx
open Idealize.SL.Sem

/-! ## Sums over the devices -/

/-- An addition read element by element adds up the elements, level by level. -/
theorem lvl_map {V : Type} (add : V → V → V) (f : V → EReal) (h : ∀ a b, f (add a b) = f a + f b) (μ : Fin 3 → Dev nD) (P : Dev nD → Dev nD → V)
    (k : Fin 3) (c b : Dev nD) : f (lvl add μ P k c b) = lvl (fun x y : EReal => x + y) μ (fun d b => f (P d b)) k c b := by
  match k with
  | 0 => rfl
  | 1 => exact h _ _
  | 2 => show f (add (add _ _) (add _ _)) = _; rw [h, h, h]; rfl

/-- The devices that a device's last addition gathers from, in order. -/
def from8 (o : Fin 3) (c : Dev nD) : List (Dev nD) :=
  let p := peer (o, 6) c
  [c, xr c (mk o 0), xr c (mk o 1), xr (xr c (mk o 1)) (mk o 0), p, xr p (mk o 0), xr p (mk o 1), xr (xr p (mk o 1)) (mk o 0)]

theorem from8_univ (o : Fin 3) (c : Dev nD) : (Finset.univ : Finset (Dev nD)).val = (from8 o c : Multiset (Dev nD)) := by
  revert o c; decide

/-- The two halves that a device adds last are the sum over all the devices. -/
theorem lvl_all (P : Dev nD → Dev nD → EReal) (o : Fin 3) (c b : Dev nD) :
    lvl (fun x y : EReal => x + y) (mk o) P 2 c b + lvl (fun x y : EReal => x + y) (mk o) P 2 (peer (o, 6) c) b = ∑ d : Dev nD, P d b := by
  rw [Finset.sum, from8_univ o c]
  unfold from8
  simp only [Multiset.map_coe, Multiset.sum_coe, List.map_cons, List.map_nil, List.sum_cons, List.sum_nil, add_zero, lvl, add_assoc]

/-! ## A device's product, element by element -/

/-- An index past a leading axis of one. -/
theorem succ_ix3 {N : ℕ} (r : Fin 512) (j : Fin N) :
    (fun a : Fin 2 => (ix3 (0 : Fin 1) r j : (⟨3, ![1, 512, N]⟩ : Shape).Idx) a.succ) = (ix2 r j : (⟨2, ![512, N]⟩ : Shape).Idx) :=
  funext fun a => by match a with | ⟨0, _⟩ => rfl | ⟨1, _⟩ => rfl

/-- A product of a block of rows and a range of columns, as stored with a leading axis of one. -/
theorem prod_apply {N off : ℕ} (hN : off + N ≤ 2048) (x : FVec Ideal S512x512 .fp8e5m2) (w : FVec Ideal S512x2048 .bf16)
    (hx : S512x512.ShapeCasts S512x512) (h1 : FTy.bits .fp8e5m2 < FTy.bits .bf16) (hs : S512x2048.Slices ![0, off] ⟨2, ![512, N]⟩)
    (h2 : FTy.bits .bf16 < FTy.bits .f32) (h3 : (⟨2, ![512, N]⟩ : Shape).ShapeCasts ⟨3, ![1, 512, N]⟩) (r : Fin 512) (j : Fin N) :
    shapeCast ⟨3, ![1, 512, N]⟩ (truncf .bf16 (FloatOps.matmul (F := Ideal) (DotDims.plain 512 512 N) none (extf .bf16 (shapeCast S512x512 x hx) h1)
        (extractStridedSlice ⟨2, ![512, N]⟩ ![0, off] w hs) (constant ⟨2, ![512, N]⟩ .f32 0x00000000#32)) h2) h3 (ix3 0 r j)
      = ∑ k : Fin 512, (x (ix2 r k) : EReal) * w (ix2 k ⟨off + j.val, by omega⟩) := by
  rw [shapeCast_addUnit_apply ![512, N], succ_ix3, truncf_apply, Ideal.matmul_plain_apply]
  show Ideal.ofBits .f32 0x00000000#32 + _ = _
  rw [Ideal.ofBits_zero_f32, zero_add]
  refine Finset.sum_congr rfl fun k _ => ?_
  rw [extf_apply, shapeCast_self, extractStridedSlice_apply _ _ _ _ (ix2 k ⟨off + j.val, by omega⟩) (fun a => by
    match a with
    | ⟨0, _⟩ => exact (Nat.zero_add _).symm
    | ⟨1, _⟩ => rfl)]

/-- A stored block with its leading axis dropped. -/
theorem drop_apply {N : ℕ} (a : FVec Ideal ⟨3, ![1, 512, N]⟩ .bf16) (h : (⟨3, ![1, 512, N]⟩ : Shape).ShapeCasts ⟨2, ![512, N]⟩) (r : Fin 512) (j : Fin N) :
    shapeCast ⟨2, ![512, N]⟩ a h (ix2 r j) = a (ix3 0 r j) := by
  rw [shapeCast_dropUnit_apply ![512, N]]
  refine congrArg a (funext fun q => ?_)
  match q with
  | ⟨0, _⟩ => rfl
  | ⟨1, _⟩ => rfl
  | ⟨2, _⟩ => rfl

/-- Adding two stored blocks adds their elements. -/
theorem add_apply {N : ℕ} (a b : FVec Ideal ⟨3, ![1, 512, N]⟩ .bf16) (h : (⟨3, ![1, 512, N]⟩ : Shape).ShapeCasts ⟨2, ![512, N]⟩)
    (h' : (⟨2, ![512, N]⟩ : Shape).ShapeCasts ⟨3, ![1, 512, N]⟩) (r : Fin 512) (j : Fin N) :
    shapeCast ⟨3, ![1, 512, N]⟩ (addf (shapeCast ⟨2, ![512, N]⟩ a h) (shapeCast ⟨2, ![512, N]⟩ b h)) h' (ix3 0 r j) = (a (ix3 0 r j) + b (ix3 0 r j) : EReal) := by
  rw [shapeCast_addUnit_apply ![512, N], succ_ix3, addf_apply, drop_apply, drop_apply]

/-! ## The kernel's result, element by element -/

section Result
variable (X : Dev nD → FVec Ideal S4096x512 .fp8e5m2) (W : Dev nD → FVec Ideal S512x2048 .fp8e5m2) (SX SW : Dev nD → FVec Ideal S1 .f32)

/-- Row `r` of row block `b`. -/
def row (b : Dev nD) (r : Fin 512) : Fin 4096 := ⟨b.val * 512 + r.val, by have : b.val < 8 := b.isLt; omega⟩

/-- Device `d`'s part of element `(r, n)` of row block `b` of the product. -/
def part (r : Fin 512) (n : Fin 2048) (d b : Dev nD) : EReal := ∑ k : Fin 512, (X d (ix2 (row b r) k) : EReal) * W d (ix2 k n)

theorem xrow_apply (c b : Dev nD) (r k : Fin 512) : xrow X c b (ix2 r k) = X c (ix2 (row b r) k) := by
  unfold xrow
  rw [View.readAt_apply]
  refine congrArg (X c) (funext fun a => Fin.ext ?_)
  match a with
  | ⟨0, _⟩ => show b.val * 512 + 1 * r.val = b.val * 512 + r.val; omega
  | ⟨1, _⟩ => show 0 + 1 * k.val = k.val; omega

theorem wide_apply (w : FVec Ideal S512x2048 .fp8e5m2) (i : S512x2048.Idx) : k0_pay1 (F := Ideal) w i = (w i : EReal) := by
  unfold k0_pay1; rw [extf_apply, shapeCast_self]

theorem prod0_apply (d b : Dev nD) (r : Fin 512) (j : Fin 640) :
    prod0 X W d b (ix3 0 r j) = part X W r ⟨0 + j.val, by omega⟩ d b := by
  refine (prod_apply (N := 640) (off := 0) (by decide) (xrow X d b) (k0_pay1 (W d)) _ _ _ _ _ r j).trans ?_
  exact Finset.sum_congr rfl fun k _ => by rw [xrow_apply, wide_apply]

theorem prod1_apply (d b : Dev nD) (r : Fin 512) (j : Fin 704) :
    prod1 X W d b (ix3 0 r j) = part X W r ⟨640 + j.val, by omega⟩ d b := by
  refine (prod_apply (N := 704) (off := 640) (by decide) (xrow X d b) (k0_pay1 (W d)) _ _ _ _ _ r j).trans ?_
  exact Finset.sum_congr rfl fun k _ => by rw [xrow_apply, wide_apply]

theorem prod2_apply (d b : Dev nD) (r : Fin 512) (j : Fin 704) :
    prod2 X W d b (ix3 0 r j) = part X W r ⟨1344 + j.val, by omega⟩ d b := by
  refine (prod_apply (N := 704) (off := 1344) (by decide) (xrow X d b) (k0_pay1 (W d)) _ _ _ _ _ r j).trans ?_
  exact Finset.sum_congr rfl fun k _ => by rw [xrow_apply, wide_apply]

/-- Element `(r, n)` of device `c`'s result at scale `z`. -/
def elt (c : Dev nD) (z : EReal) (r : Fin 512) (n : Fin 2048) : EReal :=
  max ((∑ d : Dev nD, part X W r n d c) * z) (Ideal.ofBits .f32 0x00000000#32)

theorem y0_apply (c : Dev nD) (z : EReal) (r : Fin 512) (j : Fin 640) : y0 X W c z (ix2 r j) = elt X W c z r ⟨0 + j.val, by omega⟩ := by
  have e (d : Dev nD) : sum0 X W 2 d c (ix3 0 r j) = lvl (fun x y : EReal => x + y) (mk 0) (part X W r ⟨0 + j.val, by omega⟩) 2 d c :=
    (lvl_map k0_pay37 (fun v => (v (ix3 0 r j) : EReal)) (fun a b => add_apply a b _ _ r j) (mk 0) (prod0 X W) 2 d c).trans
      (congrArg (fun P => lvl (fun x y : EReal => x + y) (mk 0) P 2 d c) (funext fun d => funext fun b => prod0_apply X W d b r j))
  unfold y0 k0_pay57 k0_pay56 elt
  rw [xr_zero, maximumf_apply, mulf_apply, addf_apply, extf_apply, extf_apply, drop_apply, drop_apply, e, e, lvl_all]
  rfl

theorem y1_apply (c : Dev nD) (z : EReal) (r : Fin 512) (j : Fin 704) : y1 X W c z (ix2 r j) = elt X W c z r ⟨640 + j.val, by omega⟩ := by
  have e (d : Dev nD) : sum1 X W 2 d c (ix3 0 r j) = lvl (fun x y : EReal => x + y) (mk 1) (part X W r ⟨640 + j.val, by omega⟩) 2 d c :=
    (lvl_map k0_pay38 (fun v => (v (ix3 0 r j) : EReal)) (fun a b => add_apply a b _ _ r j) (mk 1) (prod1 X W) 2 d c).trans
      (congrArg (fun P => lvl (fun x y : EReal => x + y) (mk 1) P 2 d c) (funext fun d => funext fun b => prod1_apply X W d b r j))
  unfold y1 k0_pay58 elt
  rw [xr_zero, maximumf_apply, mulf_apply, addf_apply, extf_apply, extf_apply, drop_apply, drop_apply, e, e, lvl_all]
  rfl

theorem y2_apply (c : Dev nD) (z : EReal) (r : Fin 512) (j : Fin 704) : y2 X W c z (ix2 r j) = elt X W c z r ⟨1344 + j.val, by omega⟩ := by
  have e (d : Dev nD) : sum2 X W 2 d c (ix3 0 r j) = lvl (fun x y : EReal => x + y) (mk 2) (part X W r ⟨1344 + j.val, by omega⟩) 2 d c :=
    (lvl_map k0_pay38 (fun v => (v (ix3 0 r j) : EReal)) (fun a b => add_apply a b _ _ r j) (mk 2) (prod2 X W) 2 d c).trans
      (congrArg (fun P => lvl (fun x y : EReal => x + y) (mk 2) P 2 d c) (funext fun d => funext fun b => prod2_apply X W d b r j))
  unfold y2 k0_pay59 elt
  rw [xr_zero, maximumf_apply, mulf_apply, addf_apply, extf_apply, extf_apply, drop_apply, drop_apply, e, e, lvl_all]
  rfl

/-- A column of a group's, in the result. -/
theorem col_eq {N off : ℕ} (inb : ∀ a, (![0, off] : Fin 2 → ℕ) a + (![512, N] : Fin 2 → ℕ) a ≤ S512x2048.size a) (hN : off + N ≤ 2048) (r : Fin 512) (j : Fin N) :
    col (Rect.unit (s := S512x2048) ![0, off] ![512, N] inb) (ix2 r j) = ix2 r ⟨off + j.val, by omega⟩ := by
  funext a; apply Fin.ext
  match a with
  | ⟨0, _⟩ => show 0 + 1 * r.val = r.val; omega
  | ⟨1, _⟩ => show off + 1 * j.val = off + j.val; omega

/-- Every element of the kernel's result. -/
theorem outF_apply (c : Dev nD) (f0 : FVec Ideal S512x2048 .f32) (r : Fin 512) (n : Fin 2048) :
    outF X W SX SW c f0 (ix2 r n) = elt X W c (scl SX SW c) r n := by
  rcases cols_cover (ix2 r n) with ⟨j, h⟩ | ⟨j, h⟩ | ⟨j, h⟩
  · obtain ⟨a, b, rfl⟩ : ∃ (a : Fin 512) (b : Fin 640), j = ix2 a b := ⟨j 0, j 1, eq_ix2 j⟩
    rw [← h, outF_col0, y0_apply]
    rw [col_eq _ (by decide)] at h
    exact congrArg₂ (elt X W c (scl SX SW c)) (congrFun h 0) (congrFun h 1)
  · obtain ⟨a, b, rfl⟩ : ∃ (a : Fin 512) (b : Fin 704), j = ix2 a b := ⟨j 0, j 1, eq_ix2 j⟩
    rw [← h, outF_col1, y1_apply]
    rw [col_eq _ (by decide)] at h
    exact congrArg₂ (elt X W c (scl SX SW c)) (congrFun h 0) (congrFun h 1)
  · obtain ⟨a, b, rfl⟩ : ∃ (a : Fin 512) (b : Fin 704), j = ix2 a b := ⟨j 0, j 1, eq_ix2 j⟩
    rw [← h, outF_col2, y2_apply]
    rw [col_eq _ (by decide)] at h
    exact congrArg₂ (elt X W c (scl SX SW c)) (congrFun h 0) (congrFun h 1)

/-- The scale is the product of the two. -/
theorem scl_eq (c : Dev nD) : (scl SX SW c : EReal) = SX c Ref.one * SW c Ref.one := by
  unfold scl k0_pay55
  exact congrArg₂ (fun x y : EReal => x * y) (congrArg (SX c) (Ref.one_eq _)) (congrArg (SW c) (Ref.one_eq _))

/-- Where the devices hold blocks of two whole arrays, their parts add up to the whole contraction. -/
theorem part_sum (x : FVec Ideal S4096x4096 .fp8e5m2) (w : FVec Ideal S4096x2048 .fp8e5m2)
    (hx : Layout.Tiles S4096x512 S4096x4096 1 8) (hw : Layout.Tiles S512x2048 S4096x2048 0 8)
    (hX : ∀ d : Dev nD, X d = Layout.block S4096x512 S4096x4096 1 8 d x hx) (hW : ∀ d : Dev nD, W d = Layout.block S512x2048 S4096x2048 0 8 d w hw)
    (r : Fin 512) (n : Fin 2048) (c : Dev nD) :
    ∑ d : Dev nD, part X W r n d c = ∑ k : Fin 4096, (x (ix2 (row c r) k) : EReal) * w (ix2 k n) := by
  have key := Fin.sum_univ_univ_mul_add 8 512 fun l => if h : l < 4096 then (x (ix2 (row c r) ⟨l, h⟩) : EReal) * w (ix2 ⟨l, h⟩ n) else 0
  refine Eq.trans (Finset.sum_congr rfl fun d _ => Finset.sum_congr rfl fun k _ => ?_) (key.trans (Finset.sum_congr rfl fun l _ => dif_pos l.isLt))
  have hl : d.val * 512 + k.val < 4096 := by have : d.val < 8 := d.isLt; omega
  rw [dif_pos hl, hX, hW, Layout.block_apply, Layout.block_apply]
  congr 2
  · funext a; apply Fin.ext
    match a with
    | ⟨0, _⟩ => exact (Layout.idx_cols_val hx d _).1
    | ⟨1, _⟩ => exact (Layout.idx_cols_val hx d _).2
  · funext a; apply Fin.ext
    match a with
    | ⟨0, _⟩ => exact (Layout.idx_rows_val hw d _).1
    | ⟨1, _⟩ => exact (Layout.idx_rows_val hw d _).2

/-- A device's result is its block of the reference's. -/
theorem outF_block (x : FVec Ideal S4096x4096 .fp8e5m2) (w : FVec Ideal S4096x2048 .fp8e5m2) (sx sw : FVec Ideal S1 .f32)
    (hx : Layout.Tiles S4096x512 S4096x4096 1 8) (hw : Layout.Tiles S512x2048 S4096x2048 0 8)
    (hX : ∀ d : Dev nD, X d = Layout.block S4096x512 S4096x4096 1 8 d x hx) (hW : ∀ d : Dev nD, W d = Layout.block S512x2048 S4096x2048 0 8 d w hw)
    (hSX : ∀ d : Dev nD, SX d = sx) (hSW : ∀ d : Dev nD, SW d = sw) (c : Dev nD) (f0 : FVec Ideal S512x2048 .f32) :
    outF X W SX SW c f0 = Layout.block S512x2048 S4096x2048 0 8 c (Ref.refOut x w sx sw) hw := by
  funext i
  obtain ⟨r, n, rfl⟩ : ∃ (r : Fin 512) (n : Fin 2048), i = ix2 r n := ⟨i 0, i 1, eq_ix2 i⟩
  rw [outF_apply, Layout.block_apply, scl_eq, hSX, hSW,
    show hw.idx c (ix2 r n) = ix2 (row c r) n from funext fun a => Fin.ext (by
      match a with
      | ⟨0, _⟩ => exact (Layout.idx_rows_val hw c _).1
      | ⟨1, _⟩ => exact (Layout.idx_rows_val hw c _).2), Ref.refOut_apply, ← part_sum X W x w hx hw hX hW]
  rfl

end Result

end Cert.Proof.Kern

end
-- ==== Proof.lean ====
/-
  The claim, assembled: the kernel's run from `Proof/Launch.lean` and `Proof/Arrays.lean`, the reference's from `Proof/Ref.lean`, and the
  comparison of their results over the reals from `Proof/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Arrays
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem

/-- The kernel over the reals runs, leaves its arguments alone and ends with every counter at zero. -/
theorem frame_ideal : Cert.quiescent_KernelIdeal := fun m ρ _ =>
  (θ_run Cert.KernelIdeal.defs _ _).mono (fun _ h => ⟨fun c => (h.1 c).2, h.2⟩) (Kern.run_values (F := Ideal) m ρ)

/-! ## The kernel over the machine's floats: the same text -/

/-- The two body tables agree, label by label. -/
theorem table_eq {F : FTy → Type} [FloatOps F] : @Cert.Kernel.defs₀ F _ _ = @Cert.KernelIdeal.defs₀ F _ _ := by
  refine congrArg Defs.onTc (funext fun ℓ => funext fun a => ?_)
  match ℓ, a with
  | 0, (t, s) => rfl

theorem defs_eq {F : FTy → Type} [FloatOps F] : @Cert.Kernel.defs F _ _ = @Cert.KernelIdeal.defs F _ _ :=
  congrArg (Pipeline.defs (Cert.KernelIdeal.pcfgs (F := F))) table_eq

/-- So the kernel has the run of the idealized one, at any float values. -/
theorem frame_kernel : Cert.quiescent_Kernel := fun m ρ _ => by
  rw [defs_eq]
  exact (θ_run Cert.KernelIdeal.defs _ _).mono (fun _ h => ⟨fun c => (h.1 c).2, h.2⟩) (Kern.run_values (F := Bits) m ρ)

theorem frame_ref : Cert.quiescent_ReferenceIdeal := fun m ρ _ => Cert.ReferenceIdeal.Gen.frame m ρ

/-- Over the reals, each device's result is its block of the reference's. -/
theorem values : Cert.algebraic_KernelIdeal_ReferenceIdeal := fun m ρ m' ρ' _ h =>
  ⟨Ref.refAt m' 0,
    (θ_run Cert.KernelIdeal.defs _ _).mono (fun _ hr c => ⟨(hr c).1.trans (by
      unfold Kern.outAt
      exact Kern.outF_block (Kern.stX m) (Kern.stW m) (Kern.stSX m) (Kern.stSW m) _ _ _ _ (by decide) (by decide)
        (fun d => (Kern.stX_eq m d).trans (h d).1) (fun d => (Kern.stW_eq m d).trans (h d).2.1)
        (fun d => (Kern.stSX_eq m d).trans (h d).2.2.1) (fun d => (Kern.stSW_eq m d).trans (h d).2.2.2) c _), (hr c).2⟩)
      (Kern.run_out m ρ),
    (θ_run Cert.ReferenceIdeal.defs _ _).mono (fun _ hr => hr 0) (Ref.run_out m' ρ')⟩

theorem claim : Cert.Claim :=
  ⟨Cert.Kernel.Gen.facts, Cert.KernelIdeal.Gen.facts, Cert.ReferenceIdeal.Gen.facts, frame_kernel, frame_ideal, frame_ref, trivial, values⟩

end Cert.Proof

end
